-- ==== Defs.lean ====
def Pre_Kernel [hPre_pixels : Cert.Pre_pixels.Facts] (m : (ℓ : Loc Cert.Kernel.nD Cert.Kernel.τ Cert.Kernel.sig) → Buf (Elt Bits) ℓ) : Prop :=
  ∀ c : Dev Cert.Kernel.nD,
    (Cert.Pre_pixels.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pixels : Cert.Pre_pixels.Facts] (m : (ℓ : Loc Cert.KernelIdeal.nD Cert.KernelIdeal.τ Cert.KernelIdeal.sig) → Buf (Elt Ideal) ℓ) : Prop :=
  ∀ c : Dev Cert.KernelIdeal.nD,
    (Cert.Pre_pixels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_pixels_focal [hPre_pixels_focal : Cert.Pre_pixels_focal.Facts] (m : (ℓ : Loc Cert.KernelIdeal.nD Cert.KernelIdeal.τ Cert.KernelIdeal.sig) → Buf (Elt Ideal) ℓ) : Prop :=
  ∀ c : Dev Cert.KernelIdeal.nD,
    (Cert.Pre_pixels_focal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pixels_focal [hPre_pixels_focal : Cert.Pre_pixels_focal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pixels_focal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pixels : Cert.Pre_pixels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pixels : Cert.Pre_pixels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pixels_focal [hKernelIdeal : Cert.KernelIdeal.Facts] [hPre_pixels_focal : Cert.Pre_pixels_focal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pixels_focal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pixels_focal [hReferenceIdeal : Cert.ReferenceIdeal.Facts] [hPre_pixels_focal : Cert.Pre_pixels_focal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pixels_focal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pixels_focal [hKernelIdeal : Cert.KernelIdeal.Facts] [hReferenceIdeal : Cert.ReferenceIdeal.Facts] [hPre_pixels_focal : Cert.Pre_pixels_focal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pixels_focal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v534) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pixels : Cert.Pre_pixels.Facts) (hPre_pixels_focal : Cert.Pre_pixels_focal.Facts),
    quiescent_Kernel (hKernel := hKernel) (hPre_pixels := hPre_pixels)
    ∧ quiescent_KernelIdeal (hKernelIdeal := hKernelIdeal) (hPre_pixels := hPre_pixels)
    ∧ quiescent_KernelIdeal_pre_pixels_focal (hKernelIdeal := hKernelIdeal) (hPre_pixels_focal := hPre_pixels_focal)
    ∧ quiescent_ReferenceIdeal (hReferenceIdeal := hReferenceIdeal)
    ∧ quiescent_ReferenceIdeal_pre_pixels_focal (hReferenceIdeal := hReferenceIdeal) (hPre_pixels_focal := hPre_pixels_focal)
    ∧ preserves_Kernel_KernelIdeal
    ∧ algebraic_KernelIdeal_ReferenceIdeal_pre_pixels_focal (hKernelIdeal := hKernelIdeal) (hReferenceIdeal := hReferenceIdeal) (hPre_pixels_focal := hPre_pixels_focal)
-- ==== Pre_pixels.lean ====
abbrev S4x1x384x384 : Shape := ⟨4, ![4, 1, 384, 384]⟩
abbrev S4x3x3 : Shape := ⟨3, ![4, 3, 3]⟩
abbrev S3x4x29491 : Shape := ⟨3, ![3, 4, 29491]⟩
abbrev S_ : Shape := ⟨0, ![]⟩

class Facts : Prop where
  bcast_S_S3x4x29491 : S_.BroadcastsInDim S3x4x29491 (![] : Fin 0 → Fin S3x4x29491.rank)
  reducesTo_S3x4x29491_S_d0_1_2 : S3x4x29491.ReducesTo [0, 1, 2] S_
  h_S_ : 0 < S_.numel

variable [Facts]

def fn {F : FTy → Type} [FloatOps F] (main_arg0 : FVec F S4x1x384x384 .f32) (main_arg1 : FVec F S4x1x384x384 .f32) (main_arg2 : FVec F S4x1x384x384 .f32) (main_arg3 : FVec F S4x3x3 .f32) (main_arg4 : IVec S3x4x29491 32) : IVec S_ 1 :=
  let main_c : IVec S_ 32 := constantI S_ 32 0#32
  let main_v0 : IVec S3x4x29491 32 := broadcastInDim S3x4x29491 ![] bcast_S_S3x4x29491 main_c
  let main_v1 : IVec S3x4x29491 1 := cmpi .sge main_arg4 main_v0
  let main_c_0 : IVec S_ 32 := constantI S_ 32 147456#32
  let main_v2 : IVec S3x4x29491 32 := broadcastInDim S3x4x29491 ![] bcast_S_S3x4x29491 main_c_0
  let main_v3 : IVec S3x4x29491 1 := cmpi .slt main_arg4 main_v2
  let main_v4 : IVec S3x4x29491 1 := andi main_v1 main_v3
  let main_c_1 : IVec S_ 1 := constantI S_ 1 1#1
  let main_v5 : IVec S_ 1 := (fun x v => Host.reduce IntOp.andi x v reducesTo_S3x4x29491_S_d0_1_2 h_S_) main_v4 main_c_1
  main_v5
-- ==== Pre_pixels_focal.lean ====
abbrev S4x1x384x384 : Shape := ⟨4, ![4, 1, 384, 384]⟩
abbrev S4x3x3 : Shape := ⟨3, ![4, 3, 3]⟩
abbrev S3x4x29491 : Shape := ⟨3, ![3, 4, 29491]⟩
abbrev S_ : Shape := ⟨0, ![]⟩
abbrev S4x1x1 : Shape := ⟨3, ![4, 1, 1]⟩
abbrev S4 : Shape := ⟨1, ![4]⟩

class Facts : Prop where
  bcast_S_S3x4x29491 : S_.BroadcastsInDim S3x4x29491 (![] : Fin 0 → Fin S3x4x29491.rank)
  reducesTo_S3x4x29491_S_d0_1_2 : S3x4x29491.ReducesTo [0, 1, 2] S_
  h_S_ : 0 < S_.numel
  slices_S4x3x3_S4x1x1_0_0_0 : S4x3x3.Slices ![0, 0, 0] S4x1x1
  shapeCasts_S4x1x1_S4 : S4x1x1.ShapeCasts S4
  bcast_S_S4 : S_.BroadcastsInDim S4 (![] : Fin 0 → Fin S4.rank)
  reducesTo_S4_S_d0 : S4.ReducesTo [0] S_

variable [Facts]

def fn {F : FTy → Type} [FloatOps F] (main_arg0 : FVec F S4x1x384x384 .f32) (main_arg1 : FVec F S4x1x384x384 .f32) (main_arg2 : FVec F S4x1x384x384 .f32) (main_arg3 : FVec F S4x3x3 .f32) (main_arg4 : IVec S3x4x29491 32) : IVec S_ 1 :=
  let main_c : IVec S_ 32 := constantI S_ 32 0#32
  let main_v0 : IVec S3x4x29491 32 := broadcastInDim S3x4x29491 ![] bcast_S_S3x4x29491 main_c
  let main_v1 : IVec S3x4x29491 1 := cmpi .sge main_arg4 main_v0
  let main_c_0 : IVec S_ 32 := constantI S_ 32 147456#32
  let main_v2 : IVec S3x4x29491 32 := broadcastInDim S3x4x29491 ![] bcast_S_S3x4x29491 main_c_0
  let main_v3 : IVec S3x4x29491 1 := cmpi .slt main_arg4 main_v2
  let main_v4 : IVec S3x4x29491 1 := andi main_v1 main_v3
  let main_c_1 : IVec S_ 1 := constantI S_ 1 1#1
  let main_v5 : IVec S_ 1 := (fun x v => Host.reduce IntOp.andi x v reducesTo_S3x4x29491_S_d0_1_2 h_S_) main_v4 main_c_1
  let main_v6 : FVec F S4x1x1 .f32 := (extractStridedSlice S4x1x1 ![0, 0, 0] · slices_S4x3x3_S4x1x1_0_0_0) main_arg3
  let main_v7 : FVec F S4 .f32 := shapeCast S4 main_v6 shapeCasts_S4x1x1_S4
  let main_cst : FVec F S_ .f32 := constant S_ .f32 0x00000000#32
  let main_v8 : FVec F S4 .f32 := broadcastInDim S4 ![] bcast_S_S4 main_cst
  let main_v9 : IVec S4 1 := cmpf .une main_v7 main_v8
  let main_c_2 : IVec S_ 1 := constantI S_ 1 1#1
  let main_v10 : IVec S_ 1 := (fun x v => Host.reduce IntOp.andi x v reducesTo_S4_S_d0 h_S_) main_v9 main_c_2
  let main_v11 : IVec S_ 1 := andi main_v5 main_v10
  main_v11
-- ==== Kernel.lean ====
abbrev S4x1x384x384 : Shape := ⟨4, ![4, 1, 384, 384]⟩
abbrev S4x3x3 : Shape := ⟨3, ![4, 3, 3]⟩
abbrev S3x4x29491 : Shape := ⟨3, ![3, 4, 29491]⟩
abbrev S_ : Shape := ⟨0, ![]⟩
abbrev S3x4x29696 : Shape := ⟨3, ![3, 4, 29696]⟩
abbrev S4 : Shape := ⟨1, ![4]⟩
abbrev S1x4x1 : Shape := ⟨3, ![1, 4, 1]⟩
abbrev S16x22272 : Shape := ⟨2, ![16, 22272]⟩
abbrev S589824 : Shape := ⟨1, ![589824]⟩
abbrev S2x3x4x29696 : Shape := ⟨4, ![2, 3, 4, 29696]⟩
abbrev S22272 : Shape := ⟨1, ![22272]⟩
abbrev S1x22272 : Shape := ⟨2, ![1, 22272]⟩
abbrev S7424 : Shape := ⟨1, ![7424]⟩
abbrev S1x1x1x7424 : Shape := ⟨4, ![1, 1, 1, 7424]⟩
abbrev S4x9 : Shape := ⟨2, ![4, 9]⟩
abbrev S1x1 : Shape := ⟨2, ![1, 1]⟩
abbrev S2x3x4x7424 : Shape := ⟨4, ![2, 3, 4, 7424]⟩
abbrev S3x4x7424 : Shape := ⟨3, ![3, 4, 7424]⟩
abbrev S2 : Shape := ⟨1, ![2]⟩
abbrev S1 : Shape := ⟨1, ![1]⟩
abbrev S4x1 : Shape := ⟨2, ![4, 1]⟩
abbrev S1x4x7424 : Shape := ⟨3, ![1, 4, 7424]⟩
abbrev S4x7424 : Shape := ⟨2, ![4, 7424]⟩
abbrev S1x1x4x7424 : Shape := ⟨4, ![1, 1, 4, 7424]⟩
abbrev S1x1x1 : Shape := ⟨3, ![1, 1, 1]⟩

abbrev nBuf : Table → Nat
  | .hbm => 33
  | .local .tc .vmem => 5
  | .local .tc .smem => 2
  | .local .scVector .vmem => 2
  | _ => 0

abbrev bufTy : (tb : Table) → Fin (nBuf tb) → BufTy
  | .hbm, ⟨0, _⟩ => ⟨S4x1x384x384, .f32⟩
  | .hbm, ⟨1, _⟩ => ⟨S4x1x384x384, .f32⟩
  | .hbm, ⟨2, _⟩ => ⟨S4x1x384x384, .f32⟩
  | .hbm, ⟨3, _⟩ => ⟨S4x3x3, .f32⟩
  | .hbm, ⟨4, _⟩ => ⟨S3x4x29491, .i32⟩
  | .hbm, ⟨5, _⟩ => ⟨S_, .i32⟩
  | .hbm, ⟨6, _⟩ => ⟨S_, .i32⟩
  | .hbm, ⟨7, _⟩ => ⟨S3x4x29696, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S1x4x1, .i32⟩
  | .hbm, ⟨13, _⟩ => ⟨S3x4x29696, .i32⟩
  | .hbm, ⟨14, _⟩ => ⟨S3x4x29696, .i32⟩
  | .hbm, ⟨15, _⟩ => ⟨S16x22272, .i32⟩
  | .hbm, ⟨16, _⟩ => ⟨S_, .i32⟩
  | .hbm, ⟨17, _⟩ => ⟨S3x4x29696, .i32⟩
  | .hbm, ⟨18, _⟩ => ⟨S3x4x29696, .i32⟩
  | .hbm, ⟨19, _⟩ => ⟨S_, .i32⟩
  | .hbm, ⟨20, _⟩ => ⟨S3x4x29696, .i32⟩
  | .hbm, ⟨21, _⟩ => ⟨S3x4x29696, .i32⟩
  | .hbm, ⟨22, _⟩ => ⟨S_, .i32⟩
  | .hbm, ⟨23, _⟩ => ⟨S3x4x29696, .i32⟩
  | .hbm, ⟨24, _⟩ => ⟨S3x4x29696, .i32⟩
  | .hbm, ⟨25, _⟩ => ⟨S3x4x29696, .i32⟩
  | .hbm, ⟨26, _⟩ => ⟨S3x4x29696, .f32⟩
  | .hbm, ⟨27, _⟩ => ⟨S589824, .f32⟩
  | .hbm, ⟨28, _⟩ => ⟨S589824, .f32⟩
  | .hbm, ⟨29, _⟩ => ⟨S2x3x4x29696, .f32⟩
  | .hbm, ⟨30, _⟩ => ⟨S4x9, .f32⟩
  | .hbm, ⟨31, _⟩ => ⟨S1x1, .f32⟩
  | .hbm, ⟨32, _⟩ => ⟨S_, .f32⟩
  | .local .tc .vmem, ⟨0, _⟩ => ⟨S2x3x4x7424, .f32⟩
  | .local .tc .vmem, ⟨1, _⟩ => ⟨S2x3x4x7424, .f32⟩
  | .local .tc .vmem, ⟨2, _⟩ => ⟨S3x4x7424, .f32⟩
  | .local .tc .vmem, ⟨3, _⟩ => ⟨S3x4x7424, .f32⟩
  | .local .tc .vmem, ⟨4, _⟩ => ⟨S4x9, .f32⟩
  | .local .tc .smem, ⟨0, _⟩ => ⟨S1x1, .f32⟩
  | .local .tc .smem, ⟨1, _⟩ => ⟨S2, .f32⟩
  | .local .scVector .vmem, ⟨0, _⟩ => ⟨S22272, .i32⟩
  | .local .scVector .vmem, ⟨1, _⟩ => ⟨S22272, .f32⟩
  | _, _ => ⟨S4x1x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v16_scv : Ref sig .scVector := ⟨.hbm, 27, rfl⟩
abbrev main_v17_scv : Ref sig .scVector := ⟨.hbm, 28, rfl⟩
abbrev main_v7_scv : Ref sig .scVector := ⟨.hbm, 15, rfl⟩
abbrev main_v18_scv : Ref sig .scVector := ⟨.hbm, 29, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.smem, 0, rfl⟩
abbrev cc1_scratch0 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c0_i32_84_r0 : BitVec 32 := 0#32
  ![arg1.toNat, 0]
def k0_off2 (i : grid0.Coords) (c0_i32_2 : BitVec 32) : Fin 4 → Nat :=
  let arg0 : BitVec 32 := BitVec.ofNat 32 (i 0).val
  let arg1 : BitVec 32 := BitVec.ofNat 32 (i 1).val
  let c3_i32 : BitVec 32 := 3#32
  let v6 : BitVec 32 := Scalar.muli arg1 c3_i32
  let v7 : BitVec 32 := Scalar.addi v6 c0_i32_2
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let c16_i32_9 : BitVec 32 := 16#32
  let c0_i32_10 : BitVec 32 := 0#32
  let v25 : BitVec 1 := Scalar.cmpi .eq c16_i32_9 c0_i32_10
  let c1_i32_11 : BitVec 32 := 1#32
  let v26 : BitVec 32 := Scalar.select v25 c1_i32_11 c16_i32_9
  let v27 : BitVec 32 := Scalar.remsi v7 v26
  let c0_i32_13 : BitVec 32 := 0#32
  let v29 : BitVec 1 := Scalar.cmpi .slt v27 c0_i32_13
  let c0_i32_14 : BitVec 32 := 0#32
  let v30 : BitVec 1 := Scalar.cmpi .slt v26 c0_i32_14
  let v31 : BitVec 1 := Scalar.xori v29 v30
  let c0_i32_12 : BitVec 32 := 0#32
  let v28 : BitVec 1 := Scalar.cmpi .ne v27 c0_i32_12
  let v32 : BitVec 1 := Scalar.andi v31 v28
  let v33 : BitVec 32 := Scalar.addi v27 v26
  let v34 : BitVec 32 := Scalar.select v32 v33 v27
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c4_i32 : BitVec 32 := 4#32
  let c0_i32_17 : BitVec 32 := 0#32
  let v41 : BitVec 1 := Scalar.cmpi .sgt c4_i32 c0_i32_17
  let v42 : BitVec 32 := Scalar.extui v41
  let c0_i32_18 : BitVec 32 := 0#32
  let v43 : BitVec 1 := Scalar.cmpi .slt c4_i32 c0_i32_18
  let v44 : BitVec 32 := Scalar.extui v43
  let v45 : BitVec 32 := Scalar.subi v42 v44
  let v46 : BitVec 1 := Scalar.cmpi .ne v40 v45
  let v47 : BitVec 32 := Scalar.remsi v34 c4_i32
  let c0_i32_19 : BitVec 32 := 0#32
  let v48 : BitVec 1 := Scalar.cmpi .ne v47 c0_i32_19
  let v49 : BitVec 1 := Scalar.andi v46 v48
  let v35 : BitVec 32 := Scalar.divsi v34 c4_i32
  let c1_i32_20 : BitVec 32 := 1#32
  let v50 : BitVec 32 := Scalar.subi v35 c1_i32_20
  let v51 : BitVec 32 := Scalar.select v49 v50 v35
  let c4_i32_21 : BitVec 32 := 4#32
  let c0_i32_22 : BitVec 32 := 0#32
  let v52 : BitVec 1 := Scalar.cmpi .eq c4_i32_21 c0_i32_22
  let c1_i32_23 : BitVec 32 := 1#32
  let v53 : BitVec 32 := Scalar.select v52 c1_i32_23 c4_i32_21
  let v54 : BitVec 32 := Scalar.remsi v34 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c7424_i32 : BitVec 32 := 7424#32
  let v62 : BitVec 32 := Scalar.muli v61 c7424_i32
  ![arg0.toNat, v24.toNat, v51.toNat, v62.toNat]
abbrev grid1 : Pipeline.Grid := ⟨1, ![4], ![false]⟩

def k1_cond2 (i : grid1.Coords) : BitVec 1 :=
  let arg0 : BitVec 32 := BitVec.ofNat 32 (i 0).val
  let c3_i32_59 : BitVec 32 := 3#32
  let v341 : BitVec 1 := Scalar.cmpi .eq arg0 c3_i32_59
  let v342 : BitVec 32 := Scalar.extui v341
  let c0_i32_60 : BitVec 32 := 0#32
  let v343 : BitVec 1 := Scalar.cmpi .ne v342 c0_i32_60
  v343

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2x3x4x7424 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3x4x7424 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x9 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1x384x384 : Shape := ⟨4, ![4, 1, 384, 384]⟩
abbrev S4x3x3 : Shape := ⟨3, ![4, 3, 3]⟩
abbrev S3x4x29491 : Shape := ⟨3, ![3, 4, 29491]⟩
abbrev S4x1x1 : Shape := ⟨3, ![4, 1, 1]⟩
abbrev S4 : Shape := ⟨1, ![4]⟩
abbrev S384 : Shape := ⟨1, ![384]⟩
abbrev S384x384 : Shape := ⟨2, ![384, 384]⟩
abbrev S4x384x384 : Shape := ⟨3, ![4, 384, 384]⟩
abbrev S1x384x384 : Shape := ⟨3, ![1, 384, 384]⟩
abbrev S4x1 : Shape := ⟨2, ![4, 1]⟩
abbrev S4x147456 : Shape := ⟨2, ![4, 147456]⟩
abbrev S1x4x29491 : Shape := ⟨3, ![1, 4, 29491]⟩
abbrev S4x29491 : Shape := ⟨2, ![4, 29491]⟩
abbrev S4x29491x1 : Shape := ⟨3, ![4, 29491, 1]⟩
abbrev S4x29491x2 : Shape := ⟨3, ![4, 29491, 2]⟩
abbrev S_ : Shape := ⟨0, ![]⟩

abbrev nBuf : Space → Nat
  | .hbm => 625
  | .vmem => 0
  | .smem => 0
  | _ => 0

abbrev hbmTy0_0 (i : Nat) : BufTy := match i % 128 with
  | 0 => ⟨S4x1x384x384, .f32⟩
  | 1 => ⟨S4x1x384x384, .f32⟩
  | 2 => ⟨S4x1x384x384, .f32⟩
  | 3 => ⟨S4x3x3, .f32⟩
  | 4 => ⟨S3x4x29491, .i32⟩
  | 5 => ⟨S4x1x1, .f32⟩
  | 6 => ⟨S4, .f32⟩
  | 7 => ⟨S4x1x1, .f32⟩
  | 8 => ⟨S4x1x1, .f32⟩
  | 9 => ⟨S4, .f32⟩
  | 10 => ⟨S4x1x1, .f32⟩
  | 11 => ⟨S4x1x1, .f32⟩
  | 12 => ⟨S4, .f32⟩
  | 13 => ⟨S4x1x1, .f32⟩
  | 14 => ⟨S384, .f32⟩
  | 15 => ⟨S384, .f32⟩
  | 16 => ⟨S384x384, .f32⟩
  | 17 => ⟨S384x384, .f32⟩
  | 18 => ⟨S4x384x384, .f32⟩
  | 19 => ⟨S1x384x384, .f32⟩
  | 20 => ⟨S4x384x384, .f32⟩
  | 21 => ⟨S4x384x384, .f32⟩
  | 22 => ⟨S4x384x384, .f32⟩
  | 23 => ⟨S4x384x384, .f32⟩
  | 24 => ⟨S4x384x384, .f32⟩
  | 25 => ⟨S4x384x384, .f32⟩
  | 26 => ⟨S1x384x384, .f32⟩
  | 27 => ⟨S4x384x384, .f32⟩
  | 28 => ⟨S4x384x384, .f32⟩
  | 29 => ⟨S4x384x384, .f32⟩
  | 30 => ⟨S4x384x384, .f32⟩
  | 31 => ⟨S4x384x384, .f32⟩
  | 32 => ⟨S4x384x384, .f32⟩
  | 33 => ⟨S4, .i32⟩
  | 34 => ⟨S4x1, .i32⟩
  | 35 => ⟨S4x147456, .f32⟩
  | 36 => ⟨S4x147456, .f32⟩
  | 37 => ⟨S4x147456, .f32⟩
  | 38 => ⟨S1x4x29491, .i32⟩
  | 39 => ⟨S4x29491, .i32⟩
  | 40 => ⟨S4x29491, .i32⟩
  | 41 => ⟨S4x29491x1, .i32⟩
  | 42 => ⟨S4x29491x1, .i32⟩
  | 43 => ⟨S4x29491x2, .i32⟩
  | 44 => ⟨S4x29491, .f32⟩
  | 45 => ⟨S1x4x29491, .i32⟩
  | 46 => ⟨S4x29491, .i32⟩
  | 47 => ⟨S4x29491, .i32⟩
  | 48 => ⟨S4x29491x1, .i32⟩
  | 49 => ⟨S4x29491x1, .i32⟩
  | 50 => ⟨S4x29491x2, .i32⟩
  | 51 => ⟨S4x29491, .f32⟩
  | 52 => ⟨S1x4x29491, .i32⟩
  | 53 => ⟨S4x29491, .i32⟩
  | 54 => ⟨S4x29491, .i32⟩
  | 55 => ⟨S4x29491x1, .i32⟩
  | 56 => ⟨S4x29491x1, .i32⟩
  | 57 => ⟨S4x29491x2, .i32⟩
  | 58 => ⟨S4x29491, .f32⟩
  | 59 => ⟨S1x4x29491, .i32⟩
  | 60 => ⟨S4x29491, .i32⟩
  | 61 => ⟨S4x29491, .i32⟩
  | 62 => ⟨S4x29491x1, .i32⟩
  | 63 => ⟨S4x29491x1, .i32⟩
  | 64 => ⟨S4x29491x2, .i32⟩
  | 65 => ⟨S4x29491, .f32⟩
  | 66 => ⟨S1x4x29491, .i32⟩
  | 67 => ⟨S4x29491, .i32⟩
  | 68 => ⟨S4x29491, .i32⟩
  | 69 => ⟨S4x29491x1, .i32⟩
  | 70 => ⟨S4x29491x1, .i32⟩
  | 71 => ⟨S4x29491x2, .i32⟩
  | 72 => ⟨S4x29491, .f32⟩
  | 73 => ⟨S1x4x29491, .i32⟩
  | 74 => ⟨S4x29491, .i32⟩
  | 75 => ⟨S4x29491, .i32⟩
  | 76 => ⟨S4x29491x1, .i32⟩
  | 77 => ⟨S4x29491x1, .i32⟩
  | 78 => ⟨S4x29491x2, .i32⟩
  | 79 => ⟨S4x29491, .f32⟩
  | 80 => ⟨S1x4x29491, .i32⟩
  | 81 => ⟨S4x29491, .i32⟩
  | 82 => ⟨S4x29491, .i32⟩
  | 83 => ⟨S4x29491x1, .i32⟩
  | 84 => ⟨S4x29491x1, .i32⟩
  | 85 => ⟨S4x29491x2, .i32⟩
  | 86 => ⟨S4x29491, .f32⟩
  | 87 => ⟨S1x4x29491, .i32⟩
  | 88 => ⟨S4x29491, .i32⟩
  | 89 => ⟨S4x29491, .i32⟩
  | 90 => ⟨S4x29491x1, .i32⟩
  | 91 => ⟨S4x29491x1, .i32⟩
  | 92 => ⟨S4x29491x2, .i32⟩
  | 93 => ⟨S4x29491, .f32⟩
  | 94 => ⟨S1x4x29491, .i32⟩
  | 95 => ⟨S4x29491, .i32⟩
  | 96 => ⟨S4x29491, .i32⟩
  | 97 => ⟨S4x29491x1, .i32⟩
  | 98 => ⟨S4x29491x1, .i32⟩
  | 99 => ⟨S4x29491x2, .i32⟩
  | 100 => ⟨S4x29491, .f32⟩
  | 101 => ⟨S4x1x1, .f32⟩
  | 102 => ⟨S4, .f32⟩
  | 103 => ⟨S4x1x1, .f32⟩
  | 104 => ⟨S4x1x1, .f32⟩
  | 105 => ⟨S4, .f32⟩
  | 106 => ⟨S4x1x1, .f32⟩
  | 107 => ⟨S4x1x1, .f32⟩
  | 108 => ⟨S4, .f32⟩
  | 109 => ⟨S4x1x1, .f32⟩
  | 110 => ⟨S384, .f32⟩
  | 111 => ⟨S384, .f32⟩
  | 112 => ⟨S384x384, .f32⟩
  | 113 => ⟨S384x384, .f32⟩
  | 114 => ⟨S4x384x384, .f32⟩
  | 115 => ⟨S1x384x384, .f32⟩
  | 116 => ⟨S4x384x384, .f32⟩
  | 117 => ⟨S4x384x384, .f32⟩
  | 118 => ⟨S4x384x384, .f32⟩
  | 119 => ⟨S4x384x384, .f32⟩
  | 120 => ⟨S4x384x384, .f32⟩
  | 121 => ⟨S4x384x384, .f32⟩
  | 122 => ⟨S1x384x384, .f32⟩
  | 123 => ⟨S4x384x384, .f32⟩
  | 124 => ⟨S4x384x384, .f32⟩
  | 125 => ⟨S4x384x384, .f32⟩
  | 126 => ⟨S4x384x384, .f32⟩
  | 127 => ⟨S4x384x384, .f32⟩
  | _ => ⟨S4x1x384x384, .f32⟩

abbrev hbmTy0_1 (i : Nat) : BufTy := match i % 128 with
  | 0 => ⟨S4x384x384, .f32⟩
  | 1 => ⟨S4, .i32⟩
  | 2 => ⟨S4x1, .i32⟩
  | 3 => ⟨S4x147456, .f32⟩
  | 4 => ⟨S4x147456, .f32⟩
  | 5 => ⟨S4x147456, .f32⟩
  | 6 => ⟨S1x4x29491, .i32⟩
  | 7 => ⟨S4x29491, .i32⟩
  | 8 => ⟨S4x29491, .i32⟩
  | 9 => ⟨S4x29491x1, .i32⟩
  | 10 => ⟨S4x29491x1, .i32⟩
  | 11 => ⟨S4x29491x2, .i32⟩
  | 12 => ⟨S4x29491, .f32⟩
  | 13 => ⟨S1x4x29491, .i32⟩
  | 14 => ⟨S4x29491, .i32⟩
  | 15 => ⟨S4x29491, .i32⟩
  | 16 => ⟨S4x29491x1, .i32⟩
  | 17 => ⟨S4x29491x1, .i32⟩
  | 18 => ⟨S4x29491x2, .i32⟩
  | 19 => ⟨S4x29491, .f32⟩
  | 20 => ⟨S1x4x29491, .i32⟩
  | 21 => ⟨S4x29491, .i32⟩
  | 22 => ⟨S4x29491, .i32⟩
  | 23 => ⟨S4x29491x1, .i32⟩
  | 24 => ⟨S4x29491x1, .i32⟩
  | 25 => ⟨S4x29491x2, .i32⟩
  | 26 => ⟨S4x29491, .f32⟩
  | 27 => ⟨S1x4x29491, .i32⟩
  | 28 => ⟨S4x29491, .i32⟩
  | 29 => ⟨S4x29491, .i32⟩
  | 30 => ⟨S4x29491x1, .i32⟩
  | 31 => ⟨S4x29491x1, .i32⟩
  | 32 => ⟨S4x29491x2, .i32⟩
  | 33 => ⟨S4x29491, .f32⟩
  | 34 => ⟨S1x4x29491, .i32⟩
  | 35 => ⟨S4x29491, .i32⟩
  | 36 => ⟨S4x29491, .i32⟩
  | 37 => ⟨S4x29491x1, .i32⟩
  | 38 => ⟨S4x29491x1, .i32⟩
  | 39 => ⟨S4x29491x2, .i32⟩
  | 40 => ⟨S4x29491, .f32⟩
  | 41 => ⟨S1x4x29491, .i32⟩
  | 42 => ⟨S4x29491, .i32⟩
  | 43 => ⟨S4x29491, .i32⟩
  | 44 => ⟨S4x29491x1, .i32⟩
  | 45 => ⟨S4x29491x1, .i32⟩
  | 46 => ⟨S4x29491x2, .i32⟩
  | 47 => ⟨S4x29491, .f32⟩
  | 48 => ⟨S1x4x29491, .i32⟩
  | 49 => ⟨S4x29491, .i32⟩
  | 50 => ⟨S4x29491, .i32⟩
  | 51 => ⟨S4x29491x1, .i32⟩
  | 52 => ⟨S4x29491x1, .i32⟩
  | 53 => ⟨S4x29491x2, .i32⟩
  | 54 => ⟨S4x29491, .f32⟩
  | 55 => ⟨S1x4x29491, .i32⟩
  | 56 => ⟨S4x29491, .i32⟩
  | 57 => ⟨S4x29491, .i32⟩
  | 58 => ⟨S4x29491x1, .i32⟩
  | 59 => ⟨S4x29491x1, .i32⟩
  | 60 => ⟨S4x29491x2, .i32⟩
  | 61 => ⟨S4x29491, .f32⟩
  | 62 => ⟨S1x4x29491, .i32⟩
  | 63 => ⟨S4x29491, .i32⟩
  | 64 => ⟨S4x29491, .i32⟩
  | 65 => ⟨S4x29491x1, .i32⟩
  | 66 => ⟨S4x29491x1, .i32⟩
  | 67 => ⟨S4x29491x2, .i32⟩
  | 68 => ⟨S4x29491, .f32⟩
  | 69 => ⟨S4x29491, .f32⟩
  | 70 => ⟨S4x29491, .f32⟩
  | 71 => ⟨S4x29491, .f32⟩
  | 72 => ⟨S4x29491, .f32⟩
  | 73 => ⟨S4x29491, .f32⟩
  | 74 => ⟨S4x29491, .f32⟩
  | 75 => ⟨S4x29491, .f32⟩
  | 76 => ⟨S4x29491, .f32⟩
  | 77 => ⟨S4x29491, .f32⟩
  | 78 => ⟨S4x29491, .f32⟩
  | 79 => ⟨S4x29491, .f32⟩
  | 80 => ⟨S4x29491, .f32⟩
  | 81 => ⟨S4x29491, .f32⟩
  | 82 => ⟨S4x29491, .f32⟩
  | 83 => ⟨S4x29491, .f32⟩
  | 84 => ⟨S4x29491, .f32⟩
  | 85 => ⟨S4x29491, .f32⟩
  | 86 => ⟨S4x29491, .f32⟩
  | 87 => ⟨S4x29491, .f32⟩
  | 88 => ⟨S4x29491, .f32⟩
  | 89 => ⟨S4x29491, .f32⟩
  | 90 => ⟨S4x29491, .f32⟩
  | 91 => ⟨S4x29491, .f32⟩
  | 92 => ⟨S4x29491, .f32⟩
  | 93 => ⟨S4x29491, .f32⟩
  | 94 => ⟨S4x29491, .f32⟩
  | 95 => ⟨S4x29491, .f32⟩
  | 96 => ⟨S_, .i32⟩
  | 97 => ⟨S4x29491, .i32⟩
  | 98 => ⟨S4x29491, .f32⟩
  | 99 => ⟨S4x29491, .f32⟩
  | 100 => ⟨S4x29491, .f32⟩
  | 101 => ⟨S4x29491, .f32⟩
  | 102 => ⟨S4x29491, .f32⟩
  | 103 => ⟨S4x29491, .f32⟩
  | 104 => ⟨S_, .f32⟩
  | 105 => ⟨S4x29491, .f32⟩
  | 106 => ⟨S4x29491, .f32⟩
  | 107 => ⟨S4x29491, .f32⟩
  | 108 => ⟨S_, .f32⟩
  | 109 => ⟨S4x29491, .f32⟩
  | 110 => ⟨S4x29491, .i1⟩
  | 111 => ⟨S4x29491, .i32⟩
  | 112 => ⟨S_, .f32⟩
  | 113 => ⟨S4x29491, .f32⟩
  | 114 => ⟨S4x29491, .i1⟩
  | 115 => ⟨S4x29491, .i32⟩
  | 116 => ⟨S4x29491, .i32⟩
  | 117 => ⟨S4x29491, .i32⟩
  | 118 => ⟨S4x29491, .f32⟩
  | 119 => ⟨S4x29491, .f32⟩
  | 120 => ⟨S4x29491, .f32⟩
  | 121 => ⟨S4x29491, .f32⟩
  | 122 => ⟨S4x29491, .f32⟩
  | 123 => ⟨S4x29491, .f32⟩
  | 124 => ⟨S_, .f32⟩
  | 125 => ⟨S4x29491, .f32⟩
  | 126 => ⟨S4x29491, .f32⟩
  | 127 => ⟨S4x29491, .f32⟩
  | _ => ⟨S4x1x384x384, .f32⟩

abbrev hbmTy0_2 (i : Nat) : BufTy := match i % 128 with
  | 0 => ⟨S_, .f32⟩
  | 1 => ⟨S4x29491, .f32⟩
  | 2 => ⟨S4x29491, .i1⟩
  | 3 => ⟨S4x29491, .i32⟩
  | 4 => ⟨S_, .f32⟩
  | 5 => ⟨S4x29491, .f32⟩
  | 6 => ⟨S4x29491, .i1⟩
  | 7 => ⟨S4x29491, .i32⟩
  | 8 => ⟨S4x29491, .i32⟩
  | 9 => ⟨S4x29491, .i32⟩
  | 10 => ⟨S4x29491, .f32⟩
  | 11 => ⟨S4x29491, .f32⟩
  | 12 => ⟨S4x29491, .f32⟩
  | 13 => ⟨S4x29491, .f32⟩
  | 14 => ⟨S4x29491, .f32⟩
  | 15 => ⟨S4x29491, .f32⟩
  | 16 => ⟨S_, .f32⟩
  | 17 => ⟨S4x29491, .f32⟩
  | 18 => ⟨S4x29491, .f32⟩
  | 19 => ⟨S4x29491, .f32⟩
  | 20 => ⟨S_, .f32⟩
  | 21 => ⟨S4x29491, .f32⟩
  | 22 => ⟨S4x29491, .i1⟩
  | 23 => ⟨S4x29491, .i32⟩
  | 24 => ⟨S_, .f32⟩
  | 25 => ⟨S4x29491, .f32⟩
  | 26 => ⟨S4x29491, .i1⟩
  | 27 => ⟨S4x29491, .i32⟩
  | 28 => ⟨S4x29491, .i32⟩
  | 29 => ⟨S4x29491, .i32⟩
  | 30 => ⟨S4x29491, .f32⟩
  | 31 => ⟨S4x29491, .f32⟩
  | 32 => ⟨S4x29491, .f32⟩
  | 33 => ⟨S4x29491, .f32⟩
  | 34 => ⟨S4x29491, .f32⟩
  | 35 => ⟨S4x29491, .f32⟩
  | 36 => ⟨S_, .f32⟩
  | 37 => ⟨S4x29491, .f32⟩
  | 38 => ⟨S4x29491, .f32⟩
  | 39 => ⟨S4x29491, .f32⟩
  | 40 => ⟨S_, .f32⟩
  | 41 => ⟨S4x29491, .f32⟩
  | 42 => ⟨S4x29491, .i1⟩
  | 43 => ⟨S4x29491, .i32⟩
  | 44 => ⟨S_, .f32⟩
  | 45 => ⟨S4x29491, .f32⟩
  | 46 => ⟨S4x29491, .i1⟩
  | 47 => ⟨S4x29491, .i32⟩
  | 48 => ⟨S4x29491, .i32⟩
  | 49 => ⟨S4x29491, .i32⟩
  | 50 => ⟨S4x29491, .f32⟩
  | 51 => ⟨S4x29491, .f32⟩
  | 52 => ⟨S4x29491, .f32⟩
  | 53 => ⟨S4x29491, .f32⟩
  | 54 => ⟨S4x29491, .f32⟩
  | 55 => ⟨S4x29491, .f32⟩
  | 56 => ⟨S_, .f32⟩
  | 57 => ⟨S4x29491, .f32⟩
  | 58 => ⟨S4x29491, .f32⟩
  | 59 => ⟨S4x29491, .f32⟩
  | 60 => ⟨S_, .f32⟩
  | 61 => ⟨S4x29491, .f32⟩
  | 62 => ⟨S4x29491, .i1⟩
  | 63 => ⟨S4x29491, .i32⟩
  | 64 => ⟨S_, .f32⟩
  | 65 => ⟨S4x29491, .f32⟩
  | 66 => ⟨S4x29491, .i1⟩
  | 67 => ⟨S4x29491, .i32⟩
  | 68 => ⟨S4x29491, .i32⟩
  | 69 => ⟨S4x29491, .i32⟩
  | 70 => ⟨S4x29491, .f32⟩
  | 71 => ⟨S4x29491, .f32⟩
  | 72 => ⟨S4x29491, .f32⟩
  | 73 => ⟨S4x29491, .f32⟩
  | 74 => ⟨S4x29491, .f32⟩
  | 75 => ⟨S4x29491, .f32⟩
  | 76 => ⟨S_, .f32⟩
  | 77 => ⟨S4x29491, .f32⟩
  | 78 => ⟨S4x29491, .f32⟩
  | 79 => ⟨S4x29491, .f32⟩
  | 80 => ⟨S_, .f32⟩
  | 81 => ⟨S4x29491, .f32⟩
  | 82 => ⟨S4x29491, .i1⟩
  | 83 => ⟨S4x29491, .i32⟩
  | 84 => ⟨S_, .f32⟩
  | 85 => ⟨S4x29491, .f32⟩
  | 86 => ⟨S4x29491, .i1⟩
  | 87 => ⟨S4x29491, .i32⟩
  | 88 => ⟨S4x29491, .i32⟩
  | 89 => ⟨S4x29491, .i32⟩
  | 90 => ⟨S4x29491, .f32⟩
  | 91 => ⟨S4x29491, .f32⟩
  | 92 => ⟨S4x29491, .f32⟩
  | 93 => ⟨S4x29491, .f32⟩
  | 94 => ⟨S4x29491, .f32⟩
  | 95 => ⟨S4x29491, .f32⟩
  | 96 => ⟨S_, .f32⟩
  | 97 => ⟨S4x29491, .f32⟩
  | 98 => ⟨S4x29491, .f32⟩
  | 99 => ⟨S4x29491, .f32⟩
  | 100 => ⟨S_, .f32⟩
  | 101 => ⟨S4x29491, .f32⟩
  | 102 => ⟨S4x29491, .i1⟩
  | 103 => ⟨S4x29491, .i32⟩
  | 104 => ⟨S_, .f32⟩
  | 105 => ⟨S4x29491, .f32⟩
  | 106 => ⟨S4x29491, .i1⟩
  | 107 => ⟨S4x29491, .i32⟩
  | 108 => ⟨S4x29491, .i32⟩
  | 109 => ⟨S4x29491, .i32⟩
  | 110 => ⟨S4x29491, .f32⟩
  | 111 => ⟨S4x29491, .f32⟩
  | 112 => ⟨S4x29491, .f32⟩
  | 113 => ⟨S4x29491, .f32⟩
  | 114 => ⟨S4x29491, .f32⟩
  | 115 => ⟨S4x29491, .f32⟩
  | 116 => ⟨S_, .f32⟩
  | 117 => ⟨S4x29491, .f32⟩
  | 118 => ⟨S4x29491, .f32⟩
  | 119 => ⟨S4x29491, .f32⟩
  | 120 => ⟨S_, .f32⟩
  | 121 => ⟨S4x29491, .f32⟩
  | 122 => ⟨S4x29491, .i1⟩
  | 123 => ⟨S4x29491, .i32⟩
  | 124 => ⟨S_, .f32⟩
  | 125 => ⟨S4x29491, .f32⟩
  | 126 => ⟨S4x29491, .i1⟩
  | 127 => ⟨S4x29491, .i32⟩
  | _ => ⟨S4x1x384x384, .f32⟩

abbrev hbmTy0_3 (i : Nat) : BufTy := match i % 128 with
  | 0 => ⟨S4x29491, .i32⟩
  | 1 => ⟨S4x29491, .i32⟩
  | 2 => ⟨S4x29491, .f32⟩
  | 3 => ⟨S4x29491, .f32⟩
  | 4 => ⟨S4x29491, .f32⟩
  | 5 => ⟨S4x29491, .f32⟩
  | 6 => ⟨S4x29491, .f32⟩
  | 7 => ⟨S4x29491, .f32⟩
  | 8 => ⟨S_, .f32⟩
  | 9 => ⟨S4x29491, .f32⟩
  | 10 => ⟨S4x29491, .f32⟩
  | 11 => ⟨S4x29491, .f32⟩
  | 12 => ⟨S_, .f32⟩
  | 13 => ⟨S4x29491, .f32⟩
  | 14 => ⟨S4x29491, .i1⟩
  | 15 => ⟨S4x29491, .i32⟩
  | 16 => ⟨S_, .f32⟩
  | 17 => ⟨S4x29491, .f32⟩
  | 18 => ⟨S4x29491, .i1⟩
  | 19 => ⟨S4x29491, .i32⟩
  | 20 => ⟨S4x29491, .i32⟩
  | 21 => ⟨S4x29491, .i32⟩
  | 22 => ⟨S_, .i32⟩
  | 23 => ⟨S4x29491, .i32⟩
  | 24 => ⟨S4x29491, .i1⟩
  | 25 => ⟨S_, .f32⟩
  | 26 => ⟨S4x29491, .f32⟩
  | 27 => ⟨S4x29491, .i1⟩
  | 28 => ⟨S4x29491, .i32⟩
  | 29 => ⟨S_, .f32⟩
  | 30 => ⟨S4x29491, .f32⟩
  | 31 => ⟨S4x29491, .i1⟩
  | 32 => ⟨S4x29491, .i32⟩
  | 33 => ⟨S4x29491, .i32⟩
  | 34 => ⟨S_, .f32⟩
  | 35 => ⟨S4x29491, .f32⟩
  | 36 => ⟨S4x29491, .i1⟩
  | 37 => ⟨S4x29491, .i32⟩
  | 38 => ⟨S4x29491, .i32⟩
  | 39 => ⟨S_, .i32⟩
  | 40 => ⟨S4x29491, .i32⟩
  | 41 => ⟨S4x29491, .i1⟩
  | 42 => ⟨S4x29491, .f32⟩
  | 43 => ⟨S_, .f32⟩
  | 44 => ⟨S4x29491, .f32⟩
  | 45 => ⟨S4x29491, .i1⟩
  | 46 => ⟨S4x29491, .i32⟩
  | 47 => ⟨S4x29491, .f32⟩
  | 48 => ⟨S_, .f32⟩
  | 49 => ⟨S4x29491, .f32⟩
  | 50 => ⟨S4x29491, .i1⟩
  | 51 => ⟨S4x29491, .i32⟩
  | 52 => ⟨S4x29491, .i32⟩
  | 53 => ⟨S4x29491, .f32⟩
  | 54 => ⟨S_, .f32⟩
  | 55 => ⟨S4x29491, .f32⟩
  | 56 => ⟨S4x29491, .i1⟩
  | 57 => ⟨S4x29491, .i32⟩
  | 58 => ⟨S4x29491, .i32⟩
  | 59 => ⟨S_, .i32⟩
  | 60 => ⟨S4x29491, .i32⟩
  | 61 => ⟨S4x29491, .i1⟩
  | 62 => ⟨S4x29491, .f32⟩
  | 63 => ⟨S_, .f32⟩
  | 64 => ⟨S4x29491, .f32⟩
  | 65 => ⟨S4x29491, .i1⟩
  | 66 => ⟨S4x29491, .i32⟩
  | 67 => ⟨S4x29491, .f32⟩
  | 68 => ⟨S_, .f32⟩
  | 69 => ⟨S4x29491, .f32⟩
  | 70 => ⟨S4x29491, .i1⟩
  | 71 => ⟨S4x29491, .i32⟩
  | 72 => ⟨S4x29491, .i32⟩
  | 73 => ⟨S4x29491, .f32⟩
  | 74 => ⟨S_, .f32⟩
  | 75 => ⟨S4x29491, .f32⟩
  | 76 => ⟨S4x29491, .i1⟩
  | 77 => ⟨S4x29491, .i32⟩
  | 78 => ⟨S4x29491, .i32⟩
  | 79 => ⟨S_, .i32⟩
  | 80 => ⟨S4x29491, .i32⟩
  | 81 => ⟨S4x29491, .i1⟩
  | 82 => ⟨S4x29491, .f32⟩
  | 83 => ⟨S_, .f32⟩
  | 84 => ⟨S4x29491, .f32⟩
  | 85 => ⟨S4x29491, .i1⟩
  | 86 => ⟨S4x29491, .i32⟩
  | 87 => ⟨S4x29491, .f32⟩
  | 88 => ⟨S_, .f32⟩
  | 89 => ⟨S4x29491, .f32⟩
  | 90 => ⟨S4x29491, .i1⟩
  | 91 => ⟨S4x29491, .i32⟩
  | 92 => ⟨S4x29491, .i32⟩
  | 93 => ⟨S4x29491, .f32⟩
  | 94 => ⟨S_, .f32⟩
  | 95 => ⟨S4x29491, .f32⟩
  | 96 => ⟨S4x29491, .i1⟩
  | 97 => ⟨S4x29491, .i32⟩
  | 98 => ⟨S4x29491, .i32⟩
  | 99 => ⟨S_, .i32⟩
  | 100 => ⟨S4x29491, .i32⟩
  | 101 => ⟨S4x29491, .i1⟩
  | 102 => ⟨S4x29491, .i1⟩
  | 103 => ⟨S4x29491, .i1⟩
  | 104 => ⟨S4x29491, .i1⟩
  | 105 => ⟨S4x29491, .i1⟩
  | 106 => ⟨S4x29491, .i1⟩
  | 107 => ⟨S_, .f32⟩
  | 108 => ⟨S4x29491, .f32⟩
  | 109 => ⟨S4x29491, .i1⟩
  | 110 => ⟨S_, .f32⟩
  | 111 => ⟨S4x29491, .f32⟩
  | 112 => ⟨S4x29491, .i1⟩
  | 113 => ⟨S_, .f32⟩
  | 114 => ⟨S4x29491, .f32⟩
  | 115 => ⟨S4x29491, .i1⟩
  | 116 => ⟨S_, .f32⟩
  | 117 => ⟨S_, .f32⟩
  | 118 => ⟨S4x29491, .f32⟩
  | 119 => ⟨S4x29491, .f32⟩
  | 120 => ⟨S_, .f32⟩
  | 121 => ⟨S_, .f32⟩
  | 122 => ⟨S4x29491, .f32⟩
  | 123 => ⟨S4x29491, .f32⟩
  | 124 => ⟨S_, .f32⟩
  | 125 => ⟨S_, .f32⟩
  | 126 => ⟨S4x29491, .f32⟩
  | 127 => ⟨S4x29491, .f32⟩
  | _ => ⟨S4x1x384x384, .f32⟩

abbrev hbmTy0_4 (i : Nat) : BufTy := match i % 128 with
  | 0 => ⟨S_, .f32⟩
  | 1 => ⟨S_, .f32⟩
  | 2 => ⟨S4x29491, .f32⟩
  | 3 => ⟨S4x29491, .f32⟩
  | 4 => ⟨S_, .f32⟩
  | 5 => ⟨S_, .f32⟩
  | 6 => ⟨S4x29491, .f32⟩
  | 7 => ⟨S4x29491, .f32⟩
  | 8 => ⟨S_, .f32⟩
  | 9 => ⟨S_, .f32⟩
  | 10 => ⟨S4x29491, .f32⟩
  | 11 => ⟨S4x29491, .f32⟩
  | 12 => ⟨S_, .f32⟩
  | 13 => ⟨S_, .f32⟩
  | 14 => ⟨S4x29491, .f32⟩
  | 15 => ⟨S4x29491, .f32⟩
  | 16 => ⟨S_, .f32⟩
  | 17 => ⟨S_, .f32⟩
  | 18 => ⟨S4x29491, .f32⟩
  | 19 => ⟨S4x29491, .f32⟩
  | 20 => ⟨S_, .f32⟩
  | 21 => ⟨S_, .f32⟩
  | 22 => ⟨S4x29491, .f32⟩
  | 23 => ⟨S4x29491, .f32⟩
  | 24 => ⟨S4x29491, .f32⟩
  | 25 => ⟨S4x29491, .f32⟩
  | 26 => ⟨S4x29491, .f32⟩
  | 27 => ⟨S4x29491, .f32⟩
  | 28 => ⟨S4x29491, .f32⟩
  | 29 => ⟨S4x29491, .f32⟩
  | 30 => ⟨S4x29491, .f32⟩
  | 31 => ⟨S4x29491, .f32⟩
  | 32 => ⟨S4x29491, .f32⟩
  | 33 => ⟨S4x29491, .f32⟩
  | 34 => ⟨S4x29491, .f32⟩
  | 35 => ⟨S4x29491, .f32⟩
  | 36 => ⟨S4x29491, .f32⟩
  | 37 => ⟨S4x29491, .f32⟩
  | 38 => ⟨S4x29491, .f32⟩
  | 39 => ⟨S4x29491, .f32⟩
  | 40 => ⟨S4x29491, .f32⟩
  | 41 => ⟨S4x29491, .f32⟩
  | 42 => ⟨S4x29491, .f32⟩
  | 43 => ⟨S4x29491, .f32⟩
  | 44 => ⟨S4x29491, .f32⟩
  | 45 => ⟨S_, .f32⟩
  | 46 => ⟨S4x29491, .f32⟩
  | 47 => ⟨S4x29491, .i1⟩
  | 48 => ⟨S4x29491, .f32⟩
  | 49 => ⟨S_, .f32⟩
  | 50 => ⟨S4x29491, .f32⟩
  | 51 => ⟨S4x29491, .f32⟩
  | 52 => ⟨S4x29491, .f32⟩
  | 53 => ⟨S4x29491, .f32⟩
  | 54 => ⟨S4x29491, .f32⟩
  | 55 => ⟨S4x29491, .f32⟩
  | 56 => ⟨S4x29491, .f32⟩
  | 57 => ⟨S4x29491, .f32⟩
  | 58 => ⟨S4x29491, .f32⟩
  | 59 => ⟨S4x29491, .f32⟩
  | 60 => ⟨S4x29491, .f32⟩
  | 61 => ⟨S4x29491, .f32⟩
  | 62 => ⟨S4x29491, .f32⟩
  | 63 => ⟨S4x29491, .f32⟩
  | 64 => ⟨S4x29491, .f32⟩
  | 65 => ⟨S4x29491, .f32⟩
  | 66 => ⟨S4x29491, .f32⟩
  | 67 => ⟨S4x29491, .f32⟩
  | 68 => ⟨S4x29491, .f32⟩
  | 69 => ⟨S4x29491, .f32⟩
  | 70 => ⟨S4x29491, .f32⟩
  | 71 => ⟨S4x29491, .f32⟩
  | 72 => ⟨S4x29491, .f32⟩
  | 73 => ⟨S4x29491, .f32⟩
  | 74 => ⟨S4x29491, .f32⟩
  | 75 => ⟨S4x29491, .f32⟩
  | 76 => ⟨S4x29491, .f32⟩
  | 77 => ⟨S_, .f32⟩
  | 78 => ⟨S4x29491, .f32⟩
  | 79 => ⟨S4x29491, .i1⟩
  | 80 => ⟨S4x29491, .f32⟩
  | 81 => ⟨S_, .f32⟩
  | 82 => ⟨S4x29491, .f32⟩
  | 83 => ⟨S4x29491, .f32⟩
  | 84 => ⟨S4x29491, .f32⟩
  | 85 => ⟨S4x29491, .f32⟩
  | 86 => ⟨S4x29491, .f32⟩
  | 87 => ⟨S4x29491, .f32⟩
  | 88 => ⟨S4x29491, .f32⟩
  | 89 => ⟨S4x29491, .f32⟩
  | 90 => ⟨S4x29491, .f32⟩
  | 91 => ⟨S4x29491, .f32⟩
  | 92 => ⟨S4x29491, .f32⟩
  | 93 => ⟨S4x29491, .f32⟩
  | 94 => ⟨S4x29491, .f32⟩
  | 95 => ⟨S4x29491, .f32⟩
  | 96 => ⟨S_, .f32⟩
  | 97 => ⟨S_, .f32⟩
  | 98 => ⟨S4x29491, .f32⟩
  | 99 => ⟨S_, .f32⟩
  | 100 => ⟨S_, .f32⟩
  | 101 => ⟨S_, .f32⟩
  | 102 => ⟨S4x29491, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | _ => ⟨S4x1x384x384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x1x384x384, .f32⟩

abbrev bufTy : (tb : Table) → Fin (tcTables nBuf tb) → BufTy
  | .hbm, ⟨i, _⟩ => hbmTy i
  | _, _ => ⟨S4x1x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_c : Ref sig .tc := ⟨.hbm, 224, rfl⟩
abbrev main_v219 : Ref sig .tc := ⟨.hbm, 225, rfl⟩
abbrev main_v220 : Ref sig .tc := ⟨.hbm, 226, rfl⟩
abbrev main_v221 : Ref sig .tc := ⟨.hbm, 227, rfl⟩
abbrev main_v222 : Ref sig .tc := ⟨.hbm, 228, rfl⟩
abbrev main_v223 : Ref sig .tc := ⟨.hbm, 229, rfl⟩
abbrev main_v224 : Ref sig .tc := ⟨.hbm, 230, rfl⟩
abbrev main_v225 : Ref sig .tc := ⟨.hbm, 231, rfl⟩
abbrev main_cst : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_cst_0 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_cst_1 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_cst_2 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_cst_3 : Ref sig .tc := ⟨.hbm, 256, rfl⟩
abbrev main_v246 : Ref sig .tc := ⟨.hbm, 257, rfl⟩
abbrev main_v247 : Ref sig .tc := ⟨.hbm, 258, rfl⟩
abbrev main_v248 : Ref sig .tc := ⟨.hbm, 259, rfl⟩
abbrev main_cst_4 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_cst_5 : Ref sig .tc := ⟨.hbm, 272, rfl⟩
abbrev main_v260 : Ref sig .tc := ⟨.hbm, 273, rfl⟩
abbrev main_v261 : Ref sig .tc := ⟨.hbm, 274, rfl⟩
abbrev main_v262 : Ref sig .tc := ⟨.hbm, 275, rfl⟩
abbrev main_cst_6 : Ref sig .tc := ⟨.hbm, 276, rfl⟩
abbrev main_v263 : Ref sig .tc := ⟨.hbm, 277, rfl⟩
abbrev main_v264 : Ref sig .tc := ⟨.hbm, 278, rfl⟩
abbrev main_v265 : Ref sig .tc := ⟨.hbm, 279, rfl⟩
abbrev main_cst_7 : Ref sig .tc := ⟨.hbm, 280, rfl⟩
abbrev main_v266 : Ref sig .tc := ⟨.hbm, 281, rfl⟩
abbrev main_v267 : Ref sig .tc := ⟨.hbm, 282, rfl⟩
abbrev main_v268 : Ref sig .tc := ⟨.hbm, 283, rfl⟩
abbrev main_v269 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_cst_8 : Ref sig .tc := ⟨.hbm, 292, rfl⟩
abbrev main_v277 : Ref sig .tc := ⟨.hbm, 293, rfl⟩
abbrev main_v278 : Ref sig .tc := ⟨.hbm, 294, rfl⟩
abbrev main_v279 : Ref sig .tc := ⟨.hbm, 295, rfl⟩
abbrev main_cst_9 : Ref sig .tc := ⟨.hbm, 296, rfl⟩
abbrev main_v280 : Ref sig .tc := ⟨.hbm, 297, rfl⟩
abbrev main_v281 : Ref sig .tc := ⟨.hbm, 298, rfl⟩
abbrev main_v282 : Ref sig .tc := ⟨.hbm, 299, rfl⟩
abbrev main_cst_10 : Ref sig .tc := ⟨.hbm, 300, rfl⟩
abbrev main_v283 : Ref sig .tc := ⟨.hbm, 301, rfl⟩
abbrev main_v284 : Ref sig .tc := ⟨.hbm, 302, rfl⟩
abbrev main_v285 : Ref sig .tc := ⟨.hbm, 303, rfl⟩
abbrev main_v286 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_v290 : Ref sig .tc := ⟨.hbm, 308, rfl⟩
abbrev main_v291 : Ref sig .tc := ⟨.hbm, 309, rfl⟩
abbrev main_v292 : Ref sig .tc := ⟨.hbm, 310, rfl⟩
abbrev main_v293 : Ref sig .tc := ⟨.hbm, 311, rfl⟩
abbrev main_cst_11 : Ref sig .tc := ⟨.hbm, 312, rfl⟩
abbrev main_v294 : Ref sig .tc := ⟨.hbm, 313, rfl⟩
abbrev main_v295 : Ref sig .tc := ⟨.hbm, 314, rfl⟩
abbrev main_v296 : Ref sig .tc := ⟨.hbm, 315, rfl⟩
abbrev main_cst_12 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_cst_13 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_v303 : Ref sig .tc := ⟨.hbm, 324, rfl⟩
abbrev main_v304 : Ref sig .tc := ⟨.hbm, 325, rfl⟩
abbrev main_v305 : Ref sig .tc := ⟨.hbm, 326, rfl⟩
abbrev main_v306 : Ref sig .tc := ⟨.hbm, 327, rfl⟩
abbrev main_v307 : Ref sig .tc := ⟨.hbm, 328, rfl⟩
abbrev main_v308 : Ref sig .tc := ⟨.hbm, 329, rfl⟩
abbrev main_v309 : Ref sig .tc := ⟨.hbm, 330, rfl⟩
abbrev main_v310 : Ref sig .tc := ⟨.hbm, 331, rfl⟩
abbrev main_cst_14 : Ref sig .tc := ⟨.hbm, 332, rfl⟩
abbrev main_v311 : Ref sig .tc := ⟨.hbm, 333, rfl⟩
abbrev main_v312 : Ref sig .tc := ⟨.hbm, 334, rfl⟩
abbrev main_v313 : Ref sig .tc := ⟨.hbm, 335, rfl⟩
abbrev main_cst_15 : Ref sig .tc := ⟨.hbm, 336, rfl⟩
abbrev main_v314 : Ref sig .tc := ⟨.hbm, 337, rfl⟩
abbrev main_v315 : Ref sig .tc := ⟨.hbm, 338, rfl⟩
abbrev main_v316 : Ref sig .tc := ⟨.hbm, 339, rfl⟩
abbrev main_cst_16 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_cst_17 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_cst_18 : Ref sig .tc := ⟨.hbm, 356, rfl⟩
abbrev main_v331 : Ref sig .tc := ⟨.hbm, 357, rfl⟩
abbrev main_v332 : Ref sig .tc := ⟨.hbm, 358, rfl⟩
abbrev main_v333 : Ref sig .tc := ⟨.hbm, 359, rfl⟩
abbrev main_cst_19 : Ref sig .tc := ⟨.hbm, 360, rfl⟩
abbrev main_v334 : Ref sig .tc := ⟨.hbm, 361, rfl⟩
abbrev main_v335 : Ref sig .tc := ⟨.hbm, 362, rfl⟩
abbrev main_v336 : Ref sig .tc := ⟨.hbm, 363, rfl⟩
abbrev main_v337 : Ref sig .tc := ⟨.hbm, 364, rfl⟩
abbrev main_v338 : Ref sig .tc := ⟨.hbm, 365, rfl⟩
abbrev main_v339 : Ref sig .tc := ⟨.hbm, 366, rfl⟩
abbrev main_v340 : Ref sig .tc := ⟨.hbm, 367, rfl⟩
abbrev main_v341 : Ref sig .tc := ⟨.hbm, 368, rfl⟩
abbrev main_v342 : Ref sig .tc := ⟨.hbm, 369, rfl⟩
abbrev main_v343 : Ref sig .tc := ⟨.hbm, 370, rfl⟩
abbrev main_v344 : Ref sig .tc := ⟨.hbm, 371, rfl⟩
abbrev main_cst_20 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_cst_21 : Ref sig .tc := ⟨.hbm, 376, rfl⟩
abbrev main_v348 : Ref sig .tc := ⟨.hbm, 377, rfl⟩
abbrev main_v349 : Ref sig .tc := ⟨.hbm, 378, rfl⟩
abbrev main_v350 : Ref sig .tc := ⟨.hbm, 379, rfl⟩
abbrev main_cst_22 : Ref sig .tc := ⟨.hbm, 380, rfl⟩
abbrev main_v351 : Ref sig .tc := ⟨.hbm, 381, rfl⟩
abbrev main_v352 : Ref sig .tc := ⟨.hbm, 382, rfl⟩
abbrev main_v353 : Ref sig .tc := ⟨.hbm, 383, rfl⟩
abbrev main_v354 : Ref sig .tc := ⟨.hbm, 384, rfl⟩
abbrev main_v355 : Ref sig .tc := ⟨.hbm, 385, rfl⟩
abbrev main_v356 : Ref sig .tc := ⟨.hbm, 386, rfl⟩
abbrev main_v357 : Ref sig .tc := ⟨.hbm, 387, rfl⟩
abbrev main_v358 : Ref sig .tc := ⟨.hbm, 388, rfl⟩
abbrev main_v359 : Ref sig .tc := ⟨.hbm, 389, rfl⟩
abbrev main_v360 : Ref sig .tc := ⟨.hbm, 390, rfl⟩
abbrev main_v361 : Ref sig .tc := ⟨.hbm, 391, rfl⟩
abbrev main_cst_23 : Ref sig .tc := ⟨.hbm, 392, rfl⟩
abbrev main_v362 : Ref sig .tc := ⟨.hbm, 393, rfl⟩
abbrev main_v363 : Ref sig .tc := ⟨.hbm, 394, rfl⟩
abbrev main_v364 : Ref sig .tc := ⟨.hbm, 395, rfl⟩
abbrev main_cst_24 : Ref sig .tc := ⟨.hbm, 396, rfl⟩
abbrev main_v365 : Ref sig .tc := ⟨.hbm, 397, rfl⟩
abbrev main_v366 : Ref sig .tc := ⟨.hbm, 398, rfl⟩
abbrev main_v367 : Ref sig .tc := ⟨.hbm, 399, rfl⟩
abbrev main_cst_25 : Ref sig .tc := ⟨.hbm, 400, rfl⟩
abbrev main_v368 : Ref sig .tc := ⟨.hbm, 401, rfl⟩
abbrev main_v369 : Ref sig .tc := ⟨.hbm, 402, rfl⟩
abbrev main_v370 : Ref sig .tc := ⟨.hbm, 403, rfl⟩
abbrev main_v371 : Ref sig .tc := ⟨.hbm, 404, rfl⟩
abbrev main_v372 : Ref sig .tc := ⟨.hbm, 405, rfl⟩
abbrev main_c_26 : Ref sig .tc := ⟨.hbm, 406, rfl⟩
abbrev main_v373 : Ref sig .tc := ⟨.hbm, 407, rfl⟩
abbrev main_v374 : Ref sig .tc := ⟨.hbm, 408, rfl⟩
abbrev main_cst_27 : Ref sig .tc := ⟨.hbm, 409, rfl⟩
abbrev main_v375 : Ref sig .tc := ⟨.hbm, 410, rfl⟩
abbrev main_v376 : Ref sig .tc := ⟨.hbm, 411, rfl⟩
abbrev main_v377 : Ref sig .tc := ⟨.hbm, 412, rfl⟩
abbrev main_cst_28 : Ref sig .tc := ⟨.hbm, 413, rfl⟩
abbrev main_v378 : Ref sig .tc := ⟨.hbm, 414, rfl⟩
abbrev main_v379 : Ref sig .tc := ⟨.hbm, 415, rfl⟩
abbrev main_v380 : Ref sig .tc := ⟨.hbm, 416, rfl⟩
abbrev main_v381 : Ref sig .tc := ⟨.hbm, 417, rfl⟩
abbrev main_cst_29 : Ref sig .tc := ⟨.hbm, 418, rfl⟩
abbrev main_v382 : Ref sig .tc := ⟨.hbm, 419, rfl⟩
abbrev main_v383 : Ref sig .tc := ⟨.hbm, 420, rfl⟩
abbrev main_v384 : Ref sig .tc := ⟨.hbm, 421, rfl⟩
abbrev main_v385 : Ref sig .tc := ⟨.hbm, 422, rfl⟩
abbrev main_c_30 : Ref sig .tc := ⟨.hbm, 423, rfl⟩
abbrev main_v386 : Ref sig .tc := ⟨.hbm, 424, rfl⟩
abbrev main_v387 : Ref sig .tc := ⟨.hbm, 425, rfl⟩
abbrev main_v388 : Ref sig .tc := ⟨.hbm, 426, rfl⟩
abbrev main_cst_31 : Ref sig .tc := ⟨.hbm, 427, rfl⟩
abbrev main_v389 : Ref sig .tc := ⟨.hbm, 428, rfl⟩
abbrev main_v390 : Ref sig .tc := ⟨.hbm, 429, rfl⟩
abbrev main_v391 : Ref sig .tc := ⟨.hbm, 430, rfl⟩
abbrev main_v392 : Ref sig .tc := ⟨.hbm, 431, rfl⟩
abbrev main_cst_32 : Ref sig .tc := ⟨.hbm, 432, rfl⟩
abbrev main_v393 : Ref sig .tc := ⟨.hbm, 433, rfl⟩
abbrev main_v394 : Ref sig .tc := ⟨.hbm, 434, rfl⟩
abbrev main_v395 : Ref sig .tc := ⟨.hbm, 435, rfl⟩
abbrev main_v396 : Ref sig .tc := ⟨.hbm, 436, rfl⟩
abbrev main_v397 : Ref sig .tc := ⟨.hbm, 437, rfl⟩
abbrev main_cst_33 : Ref sig .tc := ⟨.hbm, 438, rfl⟩
abbrev main_v398 : Ref sig .tc := ⟨.hbm, 439, rfl⟩
abbrev main_v399 : Ref sig .tc := ⟨.hbm, 440, rfl⟩
abbrev main_v400 : Ref sig .tc := ⟨.hbm, 441, rfl⟩
abbrev main_v401 : Ref sig .tc := ⟨.hbm, 442, rfl⟩
abbrev main_c_34 : Ref sig .tc := ⟨.hbm, 443, rfl⟩
abbrev main_v402 : Ref sig .tc := ⟨.hbm, 444, rfl⟩
abbrev main_v403 : Ref sig .tc := ⟨.hbm, 445, rfl⟩
abbrev main_v404 : Ref sig .tc := ⟨.hbm, 446, rfl⟩
abbrev main_cst_35 : Ref sig .tc := ⟨.hbm, 447, rfl⟩
abbrev main_v405 : Ref sig .tc := ⟨.hbm, 448, rfl⟩
abbrev main_v406 : Ref sig .tc := ⟨.hbm, 449, rfl⟩
abbrev main_v407 : Ref sig .tc := ⟨.hbm, 450, rfl⟩
abbrev main_v408 : Ref sig .tc := ⟨.hbm, 451, rfl⟩
abbrev main_cst_36 : Ref sig .tc := ⟨.hbm, 452, rfl⟩
abbrev main_v409 : Ref sig .tc := ⟨.hbm, 453, rfl⟩
abbrev main_v410 : Ref sig .tc := ⟨.hbm, 454, rfl⟩
abbrev main_v411 : Ref sig .tc := ⟨.hbm, 455, rfl⟩
abbrev main_v412 : Ref sig .tc := ⟨.hbm, 456, rfl⟩
abbrev main_v413 : Ref sig .tc := ⟨.hbm, 457, rfl⟩
abbrev main_cst_37 : Ref sig .tc := ⟨.hbm, 458, rfl⟩
abbrev main_v414 : Ref sig .tc := ⟨.hbm, 459, rfl⟩
abbrev main_v415 : Ref sig .tc := ⟨.hbm, 460, rfl⟩
abbrev main_v416 : Ref sig .tc := ⟨.hbm, 461, rfl⟩
abbrev main_v417 : Ref sig .tc := ⟨.hbm, 462, rfl⟩
abbrev main_c_38 : Ref sig .tc := ⟨.hbm, 463, rfl⟩
abbrev main_v418 : Ref sig .tc := ⟨.hbm, 464, rfl⟩
abbrev main_v419 : Ref sig .tc := ⟨.hbm, 465, rfl⟩
abbrev main_v420 : Ref sig .tc := ⟨.hbm, 466, rfl⟩
abbrev main_cst_39 : Ref sig .tc := ⟨.hbm, 467, rfl⟩
abbrev main_v421 : Ref sig .tc := ⟨.hbm, 468, rfl⟩
abbrev main_v422 : Ref sig .tc := ⟨.hbm, 469, rfl⟩
abbrev main_v423 : Ref sig .tc := ⟨.hbm, 470, rfl⟩
abbrev main_v424 : Ref sig .tc := ⟨.hbm, 471, rfl⟩
abbrev main_cst_40 : Ref sig .tc := ⟨.hbm, 472, rfl⟩
abbrev main_v425 : Ref sig .tc := ⟨.hbm, 473, rfl⟩
abbrev main_v426 : Ref sig .tc := ⟨.hbm, 474, rfl⟩
abbrev main_v427 : Ref sig .tc := ⟨.hbm, 475, rfl⟩
abbrev main_v428 : Ref sig .tc := ⟨.hbm, 476, rfl⟩
abbrev main_v429 : Ref sig .tc := ⟨.hbm, 477, rfl⟩
abbrev main_cst_41 : Ref sig .tc := ⟨.hbm, 478, rfl⟩
abbrev main_v430 : Ref sig .tc := ⟨.hbm, 479, rfl⟩
abbrev main_v431 : Ref sig .tc := ⟨.hbm, 480, rfl⟩
abbrev main_v432 : Ref sig .tc := ⟨.hbm, 481, rfl⟩
abbrev main_v433 : Ref sig .tc := ⟨.hbm, 482, rfl⟩
abbrev main_c_42 : Ref sig .tc := ⟨.hbm, 483, rfl⟩
abbrev main_v434 : Ref sig .tc := ⟨.hbm, 484, rfl⟩
abbrev main_v435 : Ref sig .tc := ⟨.hbm, 485, rfl⟩
abbrev main_v436 : Ref sig .tc := ⟨.hbm, 486, rfl⟩
abbrev main_v437 : Ref sig .tc := ⟨.hbm, 487, rfl⟩
abbrev main_v438 : Ref sig .tc := ⟨.hbm, 488, rfl⟩
abbrev main_v439 : Ref sig .tc := ⟨.hbm, 489, rfl⟩
abbrev main_v440 : Ref sig .tc := ⟨.hbm, 490, rfl⟩
abbrev main_cst_43 : Ref sig .tc := ⟨.hbm, 491, rfl⟩
abbrev main_v441 : Ref sig .tc := ⟨.hbm, 492, rfl⟩
abbrev main_v442 : Ref sig .tc := ⟨.hbm, 493, rfl⟩
abbrev main_cst_44 : Ref sig .tc := ⟨.hbm, 494, rfl⟩
abbrev main_v443 : Ref sig .tc := ⟨.hbm, 495, rfl⟩
abbrev main_v444 : Ref sig .tc := ⟨.hbm, 496, rfl⟩
abbrev main_cst_45 : Ref sig .tc := ⟨.hbm, 497, rfl⟩
abbrev main_v445 : Ref sig .tc := ⟨.hbm, 498, rfl⟩
abbrev main_v446 : Ref sig .tc := ⟨.hbm, 499, rfl⟩
abbrev main_cst_46 : Ref sig .tc := ⟨.hbm, 500, rfl⟩
abbrev main_call0_v0 : Ref sig .tc := ⟨.hbm, 501, rfl⟩
abbrev main_call0_v1 : Ref sig .tc := ⟨.hbm, 502, rfl⟩
abbrev main_v447 : Ref sig .tc := ⟨.hbm, 503, rfl⟩
abbrev main_cst_47 : Ref sig .tc := ⟨.hbm, 504, rfl⟩
abbrev main_call1_v0 : Ref sig .tc := ⟨.hbm, 505, rfl⟩
abbrev main_call1_v1 : Ref sig .tc := ⟨.hbm, 506, rfl⟩
abbrev main_v448 : Ref sig .tc := ⟨.hbm, 507, rfl⟩
abbrev main_cst_48 : Ref sig .tc := ⟨.hbm, 508, rfl⟩
abbrev main_call2_v0 : Ref sig .tc := ⟨.hbm, 509, rfl⟩
abbrev main_call2_v1 : Ref sig .tc := ⟨.hbm, 510, rfl⟩
abbrev main_v449 : Ref sig .tc := ⟨.hbm, 511, rfl⟩
abbrev main_cst_49 : Ref sig .tc := ⟨.hbm, 512, rfl⟩
abbrev main_call3_v0 : Ref sig .tc := ⟨.hbm, 513, rfl⟩
abbrev main_call3_v1 : Ref sig .tc := ⟨.hbm, 514, rfl⟩
abbrev main_v450 : Ref sig .tc := ⟨.hbm, 515, rfl⟩
abbrev main_cst_50 : Ref sig .tc := ⟨.hbm, 516, rfl⟩
abbrev main_call4_v0 : Ref sig .tc := ⟨.hbm, 517, rfl⟩
abbrev main_call4_v1 : Ref sig .tc := ⟨.hbm, 518, rfl⟩
abbrev main_v451 : Ref sig .tc := ⟨.hbm, 519, rfl⟩
abbrev main_cst_51 : Ref sig .tc := ⟨.hbm, 520, rfl⟩
abbrev main_call5_v0 : Ref sig .tc := ⟨.hbm, 521, rfl⟩
abbrev main_call5_v1 : Ref sig .tc := ⟨.hbm, 522, rfl⟩
abbrev main_v452 : Ref sig .tc := ⟨.hbm, 523, rfl⟩
abbrev main_cst_52 : Ref sig .tc := ⟨.hbm, 524, rfl⟩
abbrev main_call6_v0 : Ref sig .tc := ⟨.hbm, 525, rfl⟩
abbrev main_call6_v1 : Ref sig .tc := ⟨.hbm, 526, rfl⟩
abbrev main_v453 : Ref sig .tc := ⟨.hbm, 527, rfl⟩
abbrev main_cst_53 : Ref sig .tc := ⟨.hbm, 528, rfl⟩
abbrev main_call7_v0 : Ref sig .tc := ⟨.hbm, 529, rfl⟩
abbrev main_call7_v1 : Ref sig .tc := ⟨.hbm, 530, rfl⟩
abbrev main_v454 : Ref sig .tc := ⟨.hbm, 531, rfl⟩
abbrev main_cst_54 : Ref sig .tc := ⟨.hbm, 532, rfl⟩
abbrev main_call8_v0 : Ref sig .tc := ⟨.hbm, 533, rfl⟩
abbrev main_call8_v1 : Ref sig .tc := ⟨.hbm, 534, rfl⟩
abbrev main_v455 : Ref sig .tc := ⟨.hbm, 535, rfl⟩
abbrev main_v456 : Ref sig .tc := ⟨.hbm, 536, rfl⟩
abbrev main_v457 : Ref sig .tc := ⟨.hbm, 537, rfl⟩
abbrev main_v458 : Ref sig .tc := ⟨.hbm, 538, rfl⟩
abbrev main_v459 : Ref sig .tc := ⟨.hbm, 539, rfl⟩
abbrev main_v460 : Ref sig .tc := ⟨.hbm, 540, rfl⟩
abbrev main_v461 : Ref sig .tc := ⟨.hbm, 541, rfl⟩
abbrev main_v462 : Ref sig .tc := ⟨.hbm, 542, rfl⟩
abbrev main_v463 : Ref sig .tc := ⟨.hbm, 543, rfl⟩
abbrev main_v464 : Ref sig .tc := ⟨.hbm, 544, rfl⟩
abbrev main_v465 : Ref sig .tc := ⟨.hbm, 545, rfl⟩
abbrev main_v466 : Ref sig .tc := ⟨.hbm, 546, rfl⟩
abbrev main_v467 : Ref sig .tc := ⟨.hbm, 547, rfl⟩
abbrev main_v468 : Ref sig .tc := ⟨.hbm, 548, rfl⟩
abbrev main_v469 : Ref sig .tc := ⟨.hbm, 549, rfl⟩
abbrev main_v470 : Ref sig .tc := ⟨.hbm, 550, rfl⟩
abbrev main_v471 : Ref sig .tc := ⟨.hbm, 551, rfl⟩
abbrev main_v472 : Ref sig .tc := ⟨.hbm, 552, rfl⟩
abbrev main_v473 : Ref sig .tc := ⟨.hbm, 553, rfl⟩
abbrev main_v474 : Ref sig .tc := ⟨.hbm, 554, rfl⟩
abbrev main_v475 : Ref sig .tc := ⟨.hbm, 555, rfl⟩
abbrev main_v476 : Ref sig .tc := ⟨.hbm, 556, rfl⟩
abbrev main_cst_55 : Ref sig .tc := ⟨.hbm, 557, rfl⟩
abbrev main_v477 : Ref sig .tc := ⟨.hbm, 558, rfl⟩
abbrev main_v478 : Ref sig .tc := ⟨.hbm, 559, rfl⟩
abbrev main_v479 : Ref sig .tc := ⟨.hbm, 560, rfl⟩
abbrev main_cst_56 : Ref sig .tc := ⟨.hbm, 561, rfl⟩
abbrev main_v480 : Ref sig .tc := ⟨.hbm, 562, rfl⟩
abbrev main_v481 : Ref sig .tc := ⟨.hbm, 563, rfl⟩
abbrev main_v482 : Ref sig .tc := ⟨.hbm, 564, rfl⟩
abbrev main_v483 : Ref sig .tc := ⟨.hbm, 565, rfl⟩
abbrev main_v484 : Ref sig .tc := ⟨.hbm, 566, rfl⟩
abbrev main_v485 : Ref sig .tc := ⟨.hbm, 567, rfl⟩
abbrev main_v486 : Ref sig .tc := ⟨.hbm, 568, rfl⟩
abbrev main_v487 : Ref sig .tc := ⟨.hbm, 569, rfl⟩
abbrev main_v488 : Ref sig .tc := ⟨.hbm, 570, rfl⟩
abbrev main_v489 : Ref sig .tc := ⟨.hbm, 571, rfl⟩
abbrev main_v490 : Ref sig .tc := ⟨.hbm, 572, rfl⟩
abbrev main_v491 : Ref sig .tc := ⟨.hbm, 573, rfl⟩
abbrev main_v492 : Ref sig .tc := ⟨.hbm, 574, rfl⟩
abbrev main_v493 : Ref sig .tc := ⟨.hbm, 575, rfl⟩
abbrev main_v494 : Ref sig .tc := ⟨.hbm, 576, rfl⟩
abbrev main_v495 : Ref sig .tc := ⟨.hbm, 577, rfl⟩
abbrev main_v496 : Ref sig .tc := ⟨.hbm, 578, rfl⟩
abbrev main_v497 : Ref sig .tc := ⟨.hbm, 579, rfl⟩
abbrev main_v498 : Ref sig .tc := ⟨.hbm, 580, rfl⟩
abbrev main_v499 : Ref sig .tc := ⟨.hbm, 581, rfl⟩
abbrev main_v500 : Ref sig .tc := ⟨.hbm, 582, rfl⟩
abbrev main_v501 : Ref sig .tc := ⟨.hbm, 583, rfl⟩
abbrev main_v502 : Ref sig .tc := ⟨.hbm, 584, rfl⟩
abbrev main_v503 : Ref sig .tc := ⟨.hbm, 585, rfl⟩
abbrev main_v504 : Ref sig .tc := ⟨.hbm, 586, rfl⟩
abbrev main_v505 : Ref sig .tc := ⟨.hbm, 587, rfl⟩
abbrev main_v506 : Ref sig .tc := ⟨.hbm, 588, rfl⟩
abbrev main_cst_57 : Ref sig .tc := ⟨.hbm, 589, rfl⟩
abbrev main_v507 : Ref sig .tc := ⟨.hbm, 590, rfl⟩
abbrev main_v508 : Ref sig .tc := ⟨.hbm, 591, rfl⟩
abbrev main_v509 : Ref sig .tc := ⟨.hbm, 592, rfl⟩
abbrev main_cst_58 : Ref sig .tc := ⟨.hbm, 593, rfl⟩
abbrev main_v510 : Ref sig .tc := ⟨.hbm, 594, rfl⟩
abbrev main_v511 : Ref sig .tc := ⟨.hbm, 595, rfl⟩
abbrev main_v512 : Ref sig .tc := ⟨.hbm, 596, rfl⟩
abbrev main_v513 : Ref sig .tc := ⟨.hbm, 597, rfl⟩
abbrev main_v514 : Ref sig .tc := ⟨.hbm, 598, rfl⟩
abbrev main_v515 : Ref sig .tc := ⟨.hbm, 599, rfl⟩
abbrev main_v516 : Ref sig .tc := ⟨.hbm, 600, rfl⟩
abbrev main_v517 : Ref sig .tc := ⟨.hbm, 601, rfl⟩
abbrev main_v518 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_v522 : Ref sig .tc := ⟨.hbm, 606, rfl⟩
abbrev main_v523 : Ref sig .tc := ⟨.hbm, 607, rfl⟩
abbrev main_cst_59 : Ref sig .tc := ⟨.hbm, 608, rfl⟩
abbrev main_v524 : Ref sig .tc := ⟨.hbm, 609, rfl⟩
abbrev main_v525 : Ref sig .tc := ⟨.hbm, 610, rfl⟩
abbrev main_cst_60 : Ref sig .tc := ⟨.hbm, 611, rfl⟩
abbrev main_v526 : Ref sig .tc := ⟨.hbm, 612, rfl⟩
abbrev main_v527 : Ref sig .tc := ⟨.hbm, 613, rfl⟩
abbrev main_v528 : Ref sig .tc := ⟨.hbm, 614, rfl⟩
abbrev main_cst_61 : Ref sig .tc := ⟨.hbm, 615, rfl⟩
abbrev main_v529 : Ref sig .tc := ⟨.hbm, 616, rfl⟩
abbrev main_v530 : Ref sig .tc := ⟨.hbm, 617, rfl⟩
abbrev main_cst_62 : Ref sig .tc := ⟨.hbm, 618, rfl⟩
abbrev main_v531 : Ref sig .tc := ⟨.hbm, 619, rfl⟩
abbrev main_cst_63 : Ref sig .tc := ⟨.hbm, 620, rfl⟩
abbrev main_v532 : Ref sig .tc := ⟨.hbm, 621, rfl⟩
abbrev main_cst_64 : Ref sig .tc := ⟨.hbm, 622, rfl⟩
abbrev main_v533 : Ref sig .tc := ⟨.hbm, 623, rfl⟩
abbrev main_v534 : Ref sig .tc := ⟨.hbm, 624, rfl⟩

abbrev nD : Nat := 1
abbrev τ : Topo := Topo.v7x

variable {F : FTy → Type} [FloatOps F]
-- ==== Proof.Ideal.Setup.lean ====
/-
  The kernel as the launch theorem sees it, and what its SparseCore call computes.

  The call runs on two SparseCores of sixteen vector subcores each. Subcore `s` of either copies row `s` of the table of
  word numbers into its own memory, gathers those words of one of the two images' arrays (SparseCore 0 of the target,
  SparseCore 1 of the prediction) and copies the 22272 words it gathered, a third at a time, to the three pieces of the
  result that its rows are. Read in row-major order the pieces of the sixteen subcores are the half of the result that
  is the SparseCore's, so the result is the array `gout`: at `(c, j, b, g)`, the word of array `c` whose number stands at
  `(j, b, g)` in row-major order of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The proof's own state: the calls' handshakes, the pipeline's staging, the local copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP; infer_instance

/-! ## The buffers of the SparseCore call -/

abbrev tLoc (d : Dev nD) : Loc nD τ sig := (SparseCore.T d).loc main_v16
abbrev pLoc (d : Dev nD) : Loc nD τ sig := (SparseCore.T d).loc main_v17
abbrev iLoc (d : Dev nD) : Loc nD τ sig := (SparseCore.T d).loc main_v7
abbrev oLoc (d : Dev nD) : Loc nD τ sig := (SparseCore.T d).loc main_v18

local notation "tV" => (Memref.whole Cert.KernelIdeal.main_v16_scv : Memref Cert.KernelIdeal.sig Kind.scVector Space.hbm Cert.KernelIdeal.S589824 EltTy.f32)
local notation "pV" => (Memref.whole Cert.KernelIdeal.main_v17_scv : Memref Cert.KernelIdeal.sig Kind.scVector Space.hbm Cert.KernelIdeal.S589824 EltTy.f32)
local notation "iV" => (Memref.whole Cert.KernelIdeal.main_v7_scv : Memref Cert.KernelIdeal.sig Kind.scVector Space.hbm Cert.KernelIdeal.S16x22272 EltTy.i32)
local notation "oV" => (Memref.whole Cert.KernelIdeal.main_v18_scv : Memref Cert.KernelIdeal.sig Kind.scVector Space.hbm Cert.KernelIdeal.S2x3x4x29696 EltTy.f32)
local notation "sV" => (Memref.whole Cert.KernelIdeal.cc0_scratch0 : Memref Cert.KernelIdeal.sig Kind.scVector Space.vmem Cert.KernelIdeal.S22272 EltTy.i32)
local notation "rV" => (Memref.whole Cert.KernelIdeal.cc0_scratch1 : Memref Cert.KernelIdeal.sig Kind.scVector Space.vmem Cert.KernelIdeal.S22272 EltTy.f32)

/-- The coordinates of the subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Row `L 1` of the table of word numbers, and third `w` of the subcore's rows of the result, as the subcore names
    them. -/
abbrev iRow (L : grid0.Coords) : Memref sig .scVector .hbm S22272 .i32 :=
  ((iV).slice (Rect.unit (s := S16x22272) (k0_off1 L) S1x22272.size (k0_off1_inb L)) (fun _ => rfl)).squeeze S22272 squeezes_S1x22272_S22272
abbrev oMem (L : grid0.Coords) (w : BitVec 32) (h : ∀ a, k0_off2 L w a + S1x1x1x7424.size a ≤ S2x3x4x29696.size a) :
    Memref sig .scVector .hbm S7424 .f32 :=
  ((oV).slice (Rect.unit (s := S2x3x4x29696) (k0_off2 L w) S1x1x1x7424.size h) (fun _ => rfl)).squeeze S7424 squeezes_S1x1x1x7424_S7424

theorem k0_off2_eq : ∀ (i : grid0.Coords) (r : Fin 3), k0_off2 i (BitVec.ofNat 32 r.val)
    = ![(i 0).val, ((i 1).val * 3 + r.val) / 16, ((i 1).val * 3 + r.val) / 4 % 4, ((i 1).val * 3 + r.val) % 4 * 7424] := by decide +kernel

/-! ## What the call computes -/

theorem numel_words : S3x4x29696.numel = S16x22272.numel := by decide

/-- The last three coordinates of an index of the result. -/
def tail (i : S2x3x4x29696.Idx) : S3x4x29696.Idx := fun | 0 => i 1 | 1 => i 2 | 2 => i 3

/-- Word `n` of an image's array (`n` reduced, so that every number names a word). -/
def tix (n : ℕ) : S589824.Idx := fun | 0 => (⟨n % 589824, Nat.mod_lt _ (by decide)⟩ : Fin 589824)

/-- The call's result, of the two arrays and the table of word numbers. -/
def gout {α : Type} (fT fP : S589824.Idx → α) (fI : S16x22272.Idx → BitVec 32) : S2x3x4x29696.Idx → α :=
  fun i => (if (i 0).val = 0 then fT else fP) (tix (fI (Shape.reshapeEquiv numel_words (tail i))).toNat)

/-- Which words a third of a subcore's rows are. -/
theorem mem_oMem (L : grid0.Coords) (r : Fin 3) (h) (i : S2x3x4x29696.Idx) :
    i ∈ (oMem L (BitVec.ofNat 32 r.val) h).view.set
      ↔ (i 0).val = (L 0).val ∧ (i 1).val * 16 + (i 2).val * 4 + (i 3).val / 7424 = (L 1).val * 3 + r.val := by
  have e : (oMem L (BitVec.ofNat 32 r.val) h).view.set = (Rect.unit (s := S2x3x4x29696) (k0_off2 L (BitVec.ofNat 32 r.val)) S1x1x1x7424.size h).set := by
    show (((oV).view.slice (Rect.unit (s := S2x3x4x29696) (k0_off2 L (BitVec.ofNat 32 r.val)) S1x1x1x7424.size h)).reshape S7424 squeezes_S1x1x1x7424_S7424.numel_eq).set = _
    rw [View.set_reshape, View.set_slice]; exact Finset.map_refl
  rw [e, Rect.mem_set_unit]
  have h0 := (i 0).isLt; have h1 := (i 1).isLt; have h2 := (i 2).isLt; have h3 := (i 3).isLt
  have l0 := (L 0).isLt; have l1 := (L 1).isLt; have hr := r.isLt
  change (i 0).val < 2 at h0; change (i 1).val < 3 at h1; change (i 2).val < 4 at h2; change (i 3).val < 29696 at h3
  change (L 0).val < 2 at l0; change (L 1).val < 16 at l1
  simp only [k0_off2_eq]
  constructor
  · intro H
    have H0 := H 0; have H1 := H 1; have H2 := H 2; have H3 := H 3
    simp at H0 H1 H2 H3
    omega
  · rintro ⟨H0, H1⟩ a
    match a with
    | 0 => simp; omega
    | 1 => simp; omega
    | 2 => simp; omega
    | 3 => simp; omega

/-- A row's index behind three coordinates of size one. -/
def row4 (y : S7424.Idx) : S1x1x1x7424.Idx := fun
  | 0 => (⟨0, Nat.one_pos⟩ : Fin 1) | 1 => (⟨0, Nat.one_pos⟩ : Fin 1) | 2 => (⟨0, Nat.one_pos⟩ : Fin 1) | 3 => y 0

/-- Word `y` of a third of the subcore's rows, in the result. -/
theorem emb_oMem (L : grid0.Coords) (r : Fin 3) (h) (y : S7424.Idx) :
    let i : S2x3x4x29696.Idx := (oMem L (BitVec.ofNat 32 r.val) h).view.emb y
    (i 0).val = (L 0).val ∧ (i 1).val = ((L 1).val * 3 + r.val) / 16 ∧ (i 2).val = ((L 1).val * 3 + r.val) / 4 % 4
      ∧ (i 3).val = ((L 1).val * 3 + r.val) % 4 * 7424 + (y 0).val := by
  have e : (oMem L (BitVec.ofNat 32 r.val) h).view.emb y
      = (Rect.unit (s := S2x3x4x29696) (k0_off2 L (BitVec.ofNat 32 r.val)) S1x1x1x7424.size h).emb
          (Shape.reshapeEquiv squeezes_S1x1x1x7424_S7424.numel_eq y) := rfl
  have ey : Shape.reshapeEquiv squeezes_S1x1x1x7424_S7424.numel_eq y = row4 y := by
    refine Shape.reshapeEquiv_eq_of_rowMajor _ ?_
    rw [Shape.rowMajor_val_four, Shape.rowMajor_val_one]
    simp [row4]
  intro i
  have hi : ∀ a, (i a).val = k0_off2 L (BitVec.ofNat 32 r.val) a + (row4 y a).val := by
    intro a
    show ((oMem L (BitVec.ofNat 32 r.val) h).view.emb y a).val = _
    rw [e, ey]
    simp [Rect.unit, Rect.emb]
  simp only [k0_off2_eq] at hi
  exact ⟨by simpa [row4] using hi 0, by simpa [row4] using hi 1, by simpa [row4] using hi 2, by simpa [row4] using hi 3⟩

end Cert.Proof.Ideal

end
-- ==== Proof.Ideal.Tile.lean ====
/-
  One vector subcore's task: the copy of its row of word numbers, the gather, the three copies out, with the values
  they leave.
-/
module

public import proofs.«01_k».proof.Proof.Ideal.Setup

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "tV" => (Memref.whole Cert.KernelIdeal.main_v16_scv : Memref Cert.KernelIdeal.sig Kind.scVector Space.hbm Cert.KernelIdeal.S589824 EltTy.f32)
local notation "pV" => (Memref.whole Cert.KernelIdeal.main_v17_scv : Memref Cert.KernelIdeal.sig Kind.scVector Space.hbm Cert.KernelIdeal.S589824 EltTy.f32)
local notation "iV" => (Memref.whole Cert.KernelIdeal.main_v7_scv : Memref Cert.KernelIdeal.sig Kind.scVector Space.hbm Cert.KernelIdeal.S16x22272 EltTy.i32)
local notation "oV" => (Memref.whole Cert.KernelIdeal.main_v18_scv : Memref Cert.KernelIdeal.sig Kind.scVector Space.hbm Cert.KernelIdeal.S2x3x4x29696 EltTy.f32)
local notation "sV" => (Memref.whole Cert.KernelIdeal.cc0_scratch0 : Memref Cert.KernelIdeal.sig Kind.scVector Space.vmem Cert.KernelIdeal.S22272 EltTy.i32)
local notation "rV" => (Memref.whole Cert.KernelIdeal.cc0_scratch1 : Memref Cert.KernelIdeal.sig Kind.scVector Space.vmem Cert.KernelIdeal.S22272 EltTy.f32)

/-! ## Values -/

/-- A third of the subcore's gathered words. -/
abbrev rThird (o : ℕ) (h : ∀ a, (![o] : Fin 1 → ℕ) a + S7424.size a ≤ S22272.size a) : Memref sig .scVector .vmem S7424 .f32 :=
  (rV).slice (Rect.unit (s := S22272) ![o] S7424.size h) (fun _ => rfl)

/-- The array that SparseCore `L 0` gathers from. -/
abbrev tab {α : Type} (L : grid0.Coords) (fT fP : S589824.Idx → α) : S589824.Idx → α := if (L 0).val = 0 then fT else fP

/-- Word `x` of the subcore's row of word numbers stands, in row-major order, where the result's words it leads to do. -/
theorem iRow_emb (L : grid0.Coords) (r : Fin 3) (h) (h' : ∀ a, (![7424 * r.val] : Fin 1 → ℕ) a + S7424.size a ≤ S22272.size a) (y : S7424.Idx) :
    (iRow L).view.emb ((rThird (7424 * r.val) h').view.emb y)
      = Shape.reshapeEquiv numel_words (tail ((oMem L (BitVec.ofNat 32 r.val) h).view.emb y)) := by
  refine (Shape.reshapeEquiv_eq_of_rowMajor _ ?_).symm
  obtain ⟨-, h1, h2, h3⟩ := emb_oMem L r h y
  rw [Shape.rowMajor_val_three]
  refine (Shape.rowMajor_val_two (d := ![16, 22272]) ((iRow L).view.emb _)).trans ?_
  have ex : ((rThird (7424 * r.val) h').view.emb y 0).val = 7424 * r.val + (y 0).val := by
    show ((Rect.unit (s := S22272) ![7424 * r.val] S7424.size h').emb y 0).val = _
    simp [Rect.unit, Rect.emb]
  generalize (rThird (7424 * r.val) h').view.emb y = x at ex
  have ei : (iRow L).view.emb x = (Rect.unit (s := S16x22272) (k0_off1 L) S1x22272.size (k0_off1_inb L)).emb
      (Fin.cons (⟨0, Nat.one_pos⟩ : Fin 1) x) := by
    show (Rect.unit (s := S16x22272) (k0_off1 L) S1x22272.size (k0_off1_inb L)).emb (Shape.reshapeEquiv squeezes_S1x22272_S22272.numel_eq x) = _
    exact congrArg _ (Shape.reshapeEquiv_cons_one _ x)
  have e0 : ((iRow L).view.emb x 0).val = (L 1).val := by
    rw [ei]; simp [Rect.unit, Rect.emb, k0_off1_eq]; rfl
  have e1 : ((iRow L).view.emb x 1).val = (x 0).val := by
    rw [ei]; simp [Rect.unit, Rect.emb, k0_off1_eq]; rfl
  rw [e0, e1, ex]
  show (L 1).val * 22272 + _ = (((oMem L (BitVec.ofNat 32 r.val) h).view.emb y 1).val * 4 + ((oMem L (BitVec.ofNat 32 r.val) h).view.emb y 2).val) * 29696
    + ((oMem L (BitVec.ofNat 32 r.val) h).view.emb y 3).val
  rw [h1, h2, h3]
  have l1 : (L 1).val < 16 := (L 1).isLt
  have := r.isLt
  omega

/-- A third of the subcore's rows, written with a third of the words it gathered, holds the result. -/
theorem write_third (L : grid0.Coords) (fT fP : S589824.Idx → Elt F .f32) (fI : S16x22272.Idx → Elt F .i32) (r : Fin 3) (h)
    (h' : ∀ a, (![7424 * r.val] : Fin 1 → ℕ) a + S7424.size a ≤ S22272.size a)
    (fO : S2x3x4x29696.Idx → Elt F .f32) (g : S22272.Idx → Elt F .f32)
    (hg : ∀ x, g x = tab L fT fP (tix (fI ((iRow L).view.emb x)).toNat)) :
    ∀ i ∈ (oMem L (BitVec.ofNat 32 r.val) h).view.set,
      View.write (Elt F) (oMem L (BitVec.ofNat 32 r.val) h).view fO ((rThird (7424 * r.val) h').view.read (Elt F) g) Finset.univ i
        = gout fT fP fI i := by
  intro i hi
  obtain ⟨y, -, rfl⟩ := Finset.mem_map.mp hi
  rw [View.write_emb_of_mem _ _ (Finset.mem_univ y), View.read_apply]
  show g ((rThird (7424 * r.val) h').view.emb y) = _
  rw [hg, iRow_emb L r h h' y]
  unfold gout tab
  rw [(emb_oMem L r h y).1]

/-- The words the gather delivers: each the source's word of the number that stands in its place of the list. -/
theorem gather_val (f : S589824.Idx → Elt F .f32) (w : S22272.Idx → Elt F .i32) (hn : S22272.numel = S22272.size gathers_S589824_S22272.axis')
    (h : ∀ x, (w x).toNat < S589824.size gathers_S589824_S22272.axis) (x : S22272.Idx) :
    SparseCore.gatherPayload gathers_S589824_S22272 f (SparseCore.rows w hn h) x = f (tix (w x).toNat) := by
  unfold SparseCore.gatherPayload
  refine congrArg f (funext fun a => ?_)
  have ha : a = gathers_S589824_S22272.axis := by
    have := a.isLt; change a.val < 1 at this
    exact Fin.ext (by show a.val = 0; omega)
  subst ha
  rw [Shape.Gathers.idx_axis]
  refine Fin.ext ?_
  have hx : S22272.rowMajor.symm ((x gathers_S589824_S22272.axis').cast hn.symm) = x := by
    refine (Equiv.symm_apply_eq _).mpr (Fin.ext ?_)
    rw [Shape.rowMajor_val_one]; rfl
  show (w (S22272.rowMajor.symm ((x gathers_S589824_S22272.axis').cast hn.symm))).toNat = (w x).toNat % 589824
  rw [hx]
  exact (Nat.mod_eq_of_lt (h x)).symm

theorem all_read0 (f : S589824.Idx → Elt F .f32) :
    View.read (Elt F) ((tV).slice (Rect.unit (s := S589824) ![0] S589824.size inb_S589824_S589824_0) (fun _ => rfl)).view f = f := by
  funext y
  rw [View.read_apply]
  exact congrArg f (funext fun a => Fin.ext (by
    have ha : a = 0 := Fin.ext (by have := a.isLt; change a.val < 1 at this; show a.val = 0; omega)
    subst ha
    show ((Rect.unit (s := S589824) ![0] S589824.size inb_S589824_S589824_0).emb y 0).val = _
    simp [Rect.unit, Rect.emb]))

theorem all_read1 (f : S589824.Idx → Elt F .f32) :
    View.read (Elt F) ((pV).slice (Rect.unit (s := S589824) ![0] S589824.size inb_S589824_S589824_0) (fun _ => rfl)).view f = f := by
  funext y
  rw [View.read_apply]
  exact congrArg f (funext fun a => Fin.ext (by
    have ha : a = 0 := Fin.ext (by have := a.isLt; change a.val < 1 at this; show a.val = 0; omega)
    subst ha
    show ((Rect.unit (s := S589824) ![0] S589824.size inb_S589824_S589824_0).emb y 0).val = _
    simp [Rect.unit, Rect.emb]))

/-- `write_third`, at the buffer's name after a run. -/
theorem write_third_of (L : grid0.Coords) (fT fP : S589824.Idx → Elt F .f32) (fI : S16x22272.Idx → Elt F .i32) (r : Fin 3) (h)
    (h' : ∀ a, (![7424 * r.val] : Fin 1 → ℕ) a + S7424.size a ≤ S22272.size a)
    (fO : S2x3x4x29696.Idx → Elt F .f32) (f g : S22272.Idx → Elt F .f32) (pay : S7424.Idx → Elt F .f32)
    (hpay : pay = (rThird (7424 * r.val) h').view.read (Elt F) ((rV).view.writes (Elt F) f [⟨Rect.whole cc0_scratch1.ty.shape, g⟩]))
    (hg : ∀ x, g x = tab L fT fP (tix (fI ((iRow L).view.emb x)).toNat)) :
    ∀ i ∈ (oMem L (BitVec.ofNat 32 r.val) h).view.set,
      (oMem L (BitVec.ofNat 32 r.val) h).view.writes (Elt F) fO [⟨Rect.whole S7424, pay⟩] i = gout fT fP fI i := by
  intro i hi
  have e : (rV).view.writes (Elt F) f [⟨Rect.whole cc0_scratch1.ty.shape, g⟩] = g := by
    refine ((rV).view.write_univ_eq_writes_whole f [] g).symm.trans ?_
    exact View.write_whole_univ _ _ _
  rw [e] at hpay
  subst hpay
  refine (congrFun ((oMem L (BitVec.ofNat 32 r.val) h).view.write_univ_eq_writes_whole fO [] _).symm i).trans ?_
  exact write_third L fT fP fI r h h' fO g hg i hi

/-! ## The subcore's own semaphores and buffers -/

section Tile

variable (d : Dev nD) (L : grid0.Coords)

abbrev cell (s : DmaSems sig S_) : GSem nD τ sig := (V d (cV L) (jV L), .dma s.sem)

theorem ownSems0_V :
    (ownSems0 (V d (cV L) (jV L)) : sProp 𝕄)
      = iprop(semVal (cell d L cc0_scratch2) 0 ∗ semVal (cell d L cc0_scoped0) 0 ∗ semVal (cell d L cc0_scoped1) 0 ∗ semVal (cell d L cc0_scoped2) 0 ∗ semVal (cell d L cc0_scoped3) 0
          ∗ bigSep ((((((ownCells (V d (cV L) (jV L))).erase (cell d L cc0_scratch2)).erase (cell d L cc0_scoped0)).erase (cell d L cc0_scoped1)).erase (cell d L cc0_scoped2)).erase (cell d L cc0_scoped3)) fun g => semVal g 0) := by
  have hm : ∀ s : DmaSems sig S_, (SemLoc.dma s.sem : SemLoc sig).isScoped .scVector = true → cell d L s ∈ ownCells (V d (cV L) (jV L)) :=
    fun s hs => (mem_ownCells (g := cell d L s)).mpr ⟨rfl, hs⟩
  have hne : ∀ s s' : DmaSems sig S_, s.sem ≠ s'.sem → cell d L s ≠ cell d L s' := fun s s' h e => h (by
    have := congrArg Prod.snd e
    exact SemLoc.dma.inj this)
  unfold SparseCore.Cfg.ownSems0
  rw [SparseCore.bigSep_erase' (hm cc0_scratch2 (by decide)),
    SparseCore.bigSep_erase' (Finset.mem_erase.mpr ⟨hne cc0_scoped0 cc0_scratch2 (by decide), hm cc0_scoped0 (by decide)⟩),
    SparseCore.bigSep_erase' (Finset.mem_erase.mpr ⟨hne cc0_scoped1 cc0_scoped0 (by decide), Finset.mem_erase.mpr ⟨hne cc0_scoped1 cc0_scratch2 (by decide), hm cc0_scoped1 (by decide)⟩⟩),
    SparseCore.bigSep_erase' (Finset.mem_erase.mpr ⟨hne cc0_scoped2 cc0_scoped1 (by decide), Finset.mem_erase.mpr ⟨hne cc0_scoped2 cc0_scoped0 (by decide),
      Finset.mem_erase.mpr ⟨hne cc0_scoped2 cc0_scratch2 (by decide), hm cc0_scoped2 (by decide)⟩⟩⟩),
    SparseCore.bigSep_erase' (Finset.mem_erase.mpr ⟨hne cc0_scoped3 cc0_scoped2 (by decide), Finset.mem_erase.mpr ⟨hne cc0_scoped3 cc0_scoped1 (by decide),
      Finset.mem_erase.mpr ⟨hne cc0_scoped3 cc0_scoped0 (by decide), Finset.mem_erase.mpr ⟨hne cc0_scoped3 cc0_scratch2 (by decide), hm cc0_scoped3 (by decide)⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

abbrev iPts (q : PosShare TreeShare) (f : Buf (Elt F) (iLoc d)) : sProp 𝕄 := (iRow L).view.loc (V d (cV L) (jV L)) ↦[(iRow L).view.set]{q} f
abbrev oPts (w : BitVec 32) (h : ∀ a, k0_off2 L w a + S1x1x1x7424.size a ≤ S2x3x4x29696.size a) (f : Buf (Elt F) (oLoc d)) : sProp 𝕄 := (oMem L w h).view.loc (V d (cV L) (jV L)) ↦[(oMem L w h).view.set]{fullShare} f

/-- What the subcore's task holds of the call's operands before and, at the result, after it. -/
abbrev tileRes (qi q : PosShare TreeShare) (fT : Buf (Elt F) (tLoc d)) (fP : Buf (Elt F) (pLoc d)) (fI : Buf (Elt F) (iLoc d)) (fO : Buf (Elt F) (oLoc d)) : sProp 𝕄 :=
  iprop(iPts d L qi fI ∗ (tLoc d ↦{q} fT) ∗ (pLoc d ↦{q} fP)
    ∗ oPts d L 0#32 (k0_off2_inb L 0) fO ∗ oPts d L 1#32 (k0_off2_inb L 1) fO ∗ oPts d L 2#32 (k0_off2_inb L 2) fO)

theorem core_cases : (L 0).val = 0 ∨ (L 0).val = 1 := by
  have h : (L 0).val < 2 := (L 0).isLt
  omega

set_option maxHeartbeats 4000000 in
theorem tile_body0 (h0 : (L 0).val = 0) (hF : (K (F := F)).Facts) (qi q : PosShare TreeShare) (fT : Buf (Elt F) (tLoc d)) (fP : Buf (Elt F) (pLoc d)) (fI : Buf (Elt F) (iLoc d))
    (fO : Buf (Elt F) (oLoc d)) (hpre : ∀ j, (fI j).toNat < 589824)
    (O : CellTallies nD τ sig (HIx 1)) (W : Waits sig (HIx 1)) (hO : ∀ g, O g none = 0) :
    iprop(levAts (K (F := F)).L (K (F := F)).lev ∗ emp
        ∗ tileRes d L qi q fT fP fI fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L tV (Memref.isWhole_whole _) pV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(tileRes d L qi q fT fP fI (gout fT fP fI)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  sl_open_parts
  rw [(K (F := F)).scopedBufs_V hF d (cV L) (jV L), SparseCore.Cfg.scopedSems0_V (Val := Elt F) d (cV L) (jV L), ownSems0_V, ownBufs_V]
  iintro ⟨#Hlv, -, ⟨Hi, Ht, Hp, Ho0, Ho1, Ho2⟩, ⟨⟨%fs, Hs⟩, ⟨%fr, Hr⟩, Hbufs⟩, ⟨HsemA, Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (show (tLoc d ↦{q} fT : sProp 𝕄) = ((tV).view.loc (V d (cV L) (jV L)) ↦{q} fT) from rfl)) $$ Ht
  ihave Hp' := (Entails.of_eq (show (pLoc d ↦{q} fP : sProp 𝕄) = ((pV).view.loc (V d (cV L) (jV L)) ↦{q} fP) from rfl)) $$ Hp
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  have hin : ∀ (f0 : Buf (Elt F) ((V d (cV L) (jV L)).loc cc0_scratch0)) (x : S22272.Idx), ((sV).view.read (Elt F) (View.write (Elt F) (sV).view f0 ((iRow L).view.read (Elt F) fI) Finset.univ) x).toNat
      < S589824.size gathers_S589824_S22272.axis := by
    intro f0 x
    rw [View.write_whole_univ]
    exact hpre _
  have hc0 : Scalar.cmpi .ne (Scalar.extui (Scalar.cmpi .eq (BitVec.ofNat 32 (L 0).val) 0#32) : BitVec 32) 0#32 = 1#1 := by rw [h0]; decide
  have hc1 : ¬ (Scalar.cmpi .ne (Scalar.extui (Scalar.cmpi .eq (BitVec.ofNat 32 (L 0).val) 1#32) : BitVec 32) 0#32 = 1#1) := by rw [h0]; decide
  sl_exec
  sl_step
  have hg : ∀ x, tile_body0.sl.gather1 d L fT fI fs hin x = tab L fT fP (tix (fI ((iRow L).view.emb x)).toNat) := by
    intro x
    unfold tile_body0.sl.gather1
    refine (gather_val _ _ _ _ x).trans ?_
    rw [tab, if_pos h0, View.write_whole_univ]
    exact congrFun (all_read0 fT) _
  have e0 := write_third_of L fT fP fI 0 (k0_off2_inb L 0) inb_S22272_S7424_0 fO fr (tile_body0.sl.gather1 d L fT fI fs hin) (tile_body0.sl.dma0_1 d L fT fI fs fr hin) rfl hg
  have e1 := write_third_of L fT fP fI 1 (k0_off2_inb L 1) inb_S22272_S7424_7424 fO fr (tile_body0.sl.gather1 d L fT fI fs hin) (tile_body0.sl.dma0_2 d L fT fI fs fr hin) rfl hg
  have e2 := write_third_of L fT fP fI 2 (k0_off2_inb L 2) inb_S22272_S7424_14848 fO fr (tile_body0.sl.gather1 d L fT fI fs hin) (tile_body0.sl.dma0_3 d L fT fI fs fr hin) rfl hg
  isplitl [Hi Ht' Hp' Ho0 Ho1 Ho2]
  · isplitl [Hi]; · iexact Hi
    isplitl [Ht']; · iexact Ht'
    isplitl [Hp']; · iexact Hp'
    isplitl [Ho0]; · iapply (Entails.of_eq (pointsTo_congr e0)); iexact Ho0
    isplitl [Ho1]; · iapply (Entails.of_eq (pointsTo_congr e1)); iexact Ho1
    iapply (Entails.of_eq (pointsTo_congr e2)); iexact Ho2
  isplitl [Hs' Hr' Hbufs]
  · isplitl [Hs']; · iexists _; iexact Hs'
    isplitl [Hr']; · iexists _; iexact Hr'
    iexact Hbufs
  isplitl [HsemA Hsem0 Hsem1 Hsem2 Hsem3 Hsems]
  · isplitl [HsemA]; · iexact HsemA
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

set_option maxHeartbeats 4000000 in
theorem tile_body1 (h0 : (L 0).val = 1) (hF : (K (F := F)).Facts) (qi q : PosShare TreeShare) (fT : Buf (Elt F) (tLoc d)) (fP : Buf (Elt F) (pLoc d)) (fI : Buf (Elt F) (iLoc d))
    (fO : Buf (Elt F) (oLoc d)) (hpre : ∀ j, (fI j).toNat < 589824)
    (O : CellTallies nD τ sig (HIx 1)) (W : Waits sig (HIx 1)) (hO : ∀ g, O g none = 0) :
    iprop(levAts (K (F := F)).L (K (F := F)).lev ∗ emp
        ∗ tileRes d L qi q fT fP fI fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L tV (Memref.isWhole_whole _) pV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(tileRes d L qi q fT fP fI (gout fT fP fI)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  sl_open_parts
  rw [(K (F := F)).scopedBufs_V hF d (cV L) (jV L), SparseCore.Cfg.scopedSems0_V (Val := Elt F) d (cV L) (jV L), ownSems0_V, ownBufs_V]
  iintro ⟨#Hlv, -, ⟨Hi, Ht, Hp, Ho0, Ho1, Ho2⟩, ⟨⟨%fs, Hs⟩, ⟨%fr, Hr⟩, Hbufs⟩, ⟨HsemA, Hsem0, Hsem1, Hsem2, Hsem3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (show (tLoc d ↦{q} fT : sProp 𝕄) = ((tV).view.loc (V d (cV L) (jV L)) ↦{q} fT) from rfl)) $$ Ht
  ihave Hp' := (Entails.of_eq (show (pLoc d ↦{q} fP : sProp 𝕄) = ((pV).view.loc (V d (cV L) (jV L)) ↦{q} fP) from rfl)) $$ Hp
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  have hin : ∀ (f0 : Buf (Elt F) ((V d (cV L) (jV L)).loc cc0_scratch0)) (x : S22272.Idx), ((sV).view.read (Elt F) (View.write (Elt F) (sV).view f0 ((iRow L).view.read (Elt F) fI) Finset.univ) x).toNat
      < S589824.size gathers_S589824_S22272.axis := by
    intro f0 x
    rw [View.write_whole_univ]
    exact hpre _
  have hc0 : ¬ (Scalar.cmpi .ne (Scalar.extui (Scalar.cmpi .eq (BitVec.ofNat 32 (L 0).val) 0#32) : BitVec 32) 0#32 = 1#1) := by rw [h0]; decide
  have hc1 : Scalar.cmpi .ne (Scalar.extui (Scalar.cmpi .eq (BitVec.ofNat 32 (L 0).val) 1#32) : BitVec 32) 0#32 = 1#1 := by rw [h0]; decide
  sl_exec
  sl_step
  have hg : ∀ x, tile_body1.sl.gather1 d L fP fI fs hin x = tab L fT fP (tix (fI ((iRow L).view.emb x)).toNat) := by
    intro x
    unfold tile_body1.sl.gather1
    refine (gather_val _ _ _ _ x).trans ?_
    rw [tab, if_neg (by rw [h0]; decide), View.write_whole_univ]
    exact congrFun (all_read1 fP) _
  have e0 := write_third_of L fT fP fI 0 (k0_off2_inb L 0) inb_S22272_S7424_0 fO fr (tile_body1.sl.gather1 d L fP fI fs hin) (tile_body1.sl.dma0_1 d L fP fI fs fr hin) rfl hg
  have e1 := write_third_of L fT fP fI 1 (k0_off2_inb L 1) inb_S22272_S7424_7424 fO fr (tile_body1.sl.gather1 d L fP fI fs hin) (tile_body1.sl.dma0_2 d L fP fI fs fr hin) rfl hg
  have e2 := write_third_of L fT fP fI 2 (k0_off2_inb L 2) inb_S22272_S7424_14848 fO fr (tile_body1.sl.gather1 d L fP fI fs hin) (tile_body1.sl.dma0_3 d L fP fI fs fr hin) rfl hg
  isplitl [Hi Ht' Hp' Ho0 Ho1 Ho2]
  · isplitl [Hi]; · iexact Hi
    isplitl [Ht']; · iexact Ht'
    isplitl [Hp']; · iexact Hp'
    isplitl [Ho0]; · iapply (Entails.of_eq (pointsTo_congr e0)); iexact Ho0
    isplitl [Ho1]; · iapply (Entails.of_eq (pointsTo_congr e1)); iexact Ho1
    iapply (Entails.of_eq (pointsTo_congr e2)); iexact Ho2
  isplitl [Hs' Hr' Hbufs]
  · isplitl [Hs']; · iexists _; iexact Hs'
    isplitl [Hr']; · iexists _; iexact Hr'
    iexact Hbufs
  isplitl [HsemA Hsem0 Hsem1 Hsem2 Hsem3 Hsems]
  · isplitl [HsemA]; · iexact HsemA
    isplitl [Hsem0]; · iexact Hsem0
    isplitl [Hsem1]; · iexact Hsem1
    isplitl [Hsem2]; · iexact Hsem2
    isplitl [Hsem3]; · iexact Hsem3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

theorem tile_body (hF : (K (F := F)).Facts) (qi q : PosShare TreeShare) (fT : Buf (Elt F) (tLoc d)) (fP : Buf (Elt F) (pLoc d)) (fI : Buf (Elt F) (iLoc d))
    (fO : Buf (Elt F) (oLoc d)) (hpre : ∀ j, (fI j).toNat < 589824)
    (O : CellTallies nD τ sig (HIx 1)) (W : Waits sig (HIx 1)) (hO : ∀ g, O g none = 0) :
    iprop(levAts (K (F := F)).L (K (F := F)).lev ∗ emp
        ∗ tileRes d L qi q fT fP fI fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L tV (Memref.isWhole_whole _) pV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3)
          fun _ => iprop(tileRes d L qi q fT fP fI (gout fT fP fI)
            ∗ scopedBufs (V d (cV L) (jV L)) ∗ scopedSems0 (V d (cV L) (jV L))
            ∗ ∃ W', ⌜∀ p ∈ W', p ∈ W ∨ p.2 = none⌝ ∗ owes (V d (cV L) (jV L)) O W')   :=
  (core_cases L).elim (fun h0 => tile_body0 d L h0 hF qi q fT fP fI fO hpre O W hO) (fun h0 => tile_body1 d L h0 hF qi q fT fP fI fO hpre O W hO)

end Tile

end Cert.Proof.Ideal

end
-- ==== Proof.Ideal.Call.lean ====
/-
  The SparseCore call as one step of @main: the two arrays, the table of word numbers and the result's buffer go in, the
  result comes back with the words gathered.
-/
module

public import proofs.«01_k».proof.Proof.Ideal.Tile

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves

variable {F : FTy → Type}

local notation "𝕄" => MT nD τ sig (HIx 1) (Elt F) ℕ UU ℕ
local notation "tV" => (Memref.whole Cert.KernelIdeal.main_v16_scv : Memref Cert.KernelIdeal.sig Kind.scVector Space.hbm Cert.KernelIdeal.S589824 EltTy.f32)
local notation "pV" => (Memref.whole Cert.KernelIdeal.main_v17_scv : Memref Cert.KernelIdeal.sig Kind.scVector Space.hbm Cert.KernelIdeal.S589824 EltTy.f32)
local notation "iV" => (Memref.whole Cert.KernelIdeal.main_v7_scv : Memref Cert.KernelIdeal.sig Kind.scVector Space.hbm Cert.KernelIdeal.S16x22272 EltTy.i32)
local notation "oV" => (Memref.whole Cert.KernelIdeal.main_v18_scv : Memref Cert.KernelIdeal.sig Kind.scVector Space.hbm Cert.KernelIdeal.S2x3x4x29696 EltTy.f32)
local notation "sV" => (Memref.whole Cert.KernelIdeal.cc0_scratch0 : Memref Cert.KernelIdeal.sig Kind.scVector Space.vmem Cert.KernelIdeal.S22272 EltTy.i32)
local notation "rV" => (Memref.whole Cert.KernelIdeal.cc0_scratch1 : Memref Cert.KernelIdeal.sig Kind.scVector Space.vmem Cert.KernelIdeal.S22272 EltTy.f32)

/-! ## How the operands are dealt -/

/-- SparseCore `c`'s share of what both read, and its subcore `s`'s share of that. -/
abbrev cq (c : Fin 2) : PosShare TreeShare := leaf 1 fullShare c
abbrev tq (c : Fin 2) (s : Fin 16) : PosShare TreeShare := leaf 4 (cq c) s

/-- Row `L 1` of the table is the words whose first coordinate is `L 1`. -/
theorem mem_iRow (L : grid0.Coords) (i : S16x22272.Idx) : i ∈ (iRow L).view.set ↔ (i 0).val = (L 1).val := by
  have e : (iRow L).view.set = (Rect.unit (s := S16x22272) (k0_off1 L) S1x22272.size (k0_off1_inb L)).set := by
    show (((iV).view.slice (Rect.unit (s := S16x22272) (k0_off1 L) S1x22272.size (k0_off1_inb L))).reshape S22272 squeezes_S1x22272_S22272.numel_eq).set = _
    rw [View.set_reshape, View.set_slice]; exact Finset.map_refl
  rw [e, Rect.mem_set_unit]
  have h1 := (i 1).isLt
  change (i 1).val < 22272 at h1
  simp only [k0_off1_eq]
  constructor
  · intro H
    have H0 := H 0
    simp at H0
    omega
  · intro H a
    match a with
    | 0 => simp; omega
    | 1 => simp; omega

/-- Row `s` of the table; third `r` of subcore `s`'s rows of the result on SparseCore `c`; the subcore's rows; the
    SparseCore's half. -/
abbrev iSet (c : Fin 2) (s : Fin 16) : Finset S16x22272.Idx := (iRow (coordsV c s)).view.set
abbrev oThird (c : Fin 2) (s : Fin 16) (r : Fin 3) : Finset S2x3x4x29696.Idx := (oMem (coordsV c s) (BitVec.ofNat 32 r.val) (k0_off2_inb (coordsV c s) r)).view.set
abbrev oTile (c : Fin 2) (s : Fin 16) : Finset S2x3x4x29696.Idx := Finset.univ.biUnion (oThird c s)
abbrev oCore (c : Fin 2) : Finset S2x3x4x29696.Idx := Finset.univ.biUnion (oTile c)

theorem mem_iSet (c : Fin 2) (s : Fin 16) (i : S16x22272.Idx) : i ∈ iSet c s ↔ (i 0).val = s.val := mem_iRow (coordsV c s) i
theorem mem_oThird (c : Fin 2) (s : Fin 16) (r : Fin 3) (i : S2x3x4x29696.Idx) :
    i ∈ oThird c s r ↔ (i 0).val = c.val ∧ (i 1).val * 16 + (i 2).val * 4 + (i 3).val / 7424 = s.val * 3 + r.val :=
  mem_oMem (coordsV c s) r (k0_off2_inb (coordsV c s) r) i
theorem mem_oTile (c : Fin 2) (s : Fin 16) (i : S2x3x4x29696.Idx) :
    i ∈ oTile c s ↔ (i 0).val = c.val ∧ ((i 1).val * 16 + (i 2).val * 4 + (i 3).val / 7424) / 3 = s.val := by
  rw [Finset.mem_biUnion]
  constructor
  · rintro ⟨r, -, h⟩
    obtain ⟨h0, h⟩ := (mem_oThird c s r i).mp h
    have := r.isLt
    exact ⟨h0, by omega⟩
  · rintro ⟨h0, h⟩
    exact ⟨⟨((i 1).val * 16 + (i 2).val * 4 + (i 3).val / 7424) % 3, Nat.mod_lt _ (by decide)⟩, Finset.mem_univ _,
      (mem_oThird c s _ i).mpr ⟨h0, by dsimp only; omega⟩⟩
theorem mem_oCore (c : Fin 2) (i : S2x3x4x29696.Idx) : i ∈ oCore c ↔ (i 0).val = c.val := by
  rw [Finset.mem_biUnion]
  have h1 := (i 1).isLt; have h2 := (i 2).isLt; have h3 := (i 3).isLt
  change (i 1).val < 3 at h1; change (i 2).val < 4 at h2; change (i 3).val < 29696 at h3
  constructor
  · rintro ⟨s, -, h⟩; exact ((mem_oTile c s i).mp h).1
  · intro h0
    exact ⟨⟨((i 1).val * 16 + (i 2).val * 4 + (i 3).val / 7424) / 3, by omega⟩, Finset.mem_univ _, (mem_oTile c _ i).mpr ⟨h0, rfl⟩⟩

theorem iSet_disjoint (c : Fin 2) : ∀ s ∈ (Finset.univ : Finset (Fin 16)), ∀ s' ∈ (Finset.univ : Finset (Fin 16)), s ≠ s' → Disjoint (iSet c s) (iSet c s') :=
  fun s _ s' _ h => Finset.disjoint_left.mpr fun i hi hi' => h (Fin.ext (by rw [mem_iSet] at hi hi'; omega))
theorem iSet_cover (c : Fin 2) : Finset.univ.biUnion (iSet c) = Finset.univ := by
  ext i
  simp only [Finset.mem_biUnion, Finset.mem_univ, true_and, mem_iSet, iff_true]
  exact ⟨i 0, rfl⟩
theorem oThird_disjoint (c : Fin 2) (s : Fin 16) : ∀ r ∈ (Finset.univ : Finset (Fin 3)), ∀ r' ∈ (Finset.univ : Finset (Fin 3)), r ≠ r' → Disjoint (oThird c s r) (oThird c s r') :=
  fun r _ r' _ h => Finset.disjoint_left.mpr fun i hi hi' => h (Fin.ext (by rw [mem_oThird] at hi hi'; omega))
theorem oTile_disjoint (c : Fin 2) : ∀ s ∈ (Finset.univ : Finset (Fin 16)), ∀ s' ∈ (Finset.univ : Finset (Fin 16)), s ≠ s' → Disjoint (oTile c s) (oTile c s') :=
  fun s _ s' _ h => Finset.disjoint_left.mpr fun i hi hi' => h (Fin.ext (by rw [mem_oTile] at hi hi'; omega))
theorem oCore_disjoint : ∀ c ∈ (Finset.univ : Finset (Fin 2)), ∀ c' ∈ (Finset.univ : Finset (Fin 2)), c ≠ c' → Disjoint (oCore c) (oCore c') :=
  fun c _ c' _ h => Finset.disjoint_left.mpr fun i hi hi' => h (Fin.ext (by rw [mem_oCore] at hi hi'; omega))
theorem oCore_cover : Finset.univ.biUnion oCore = Finset.univ :=
  Finset.eq_univ_of_forall fun i => Finset.mem_biUnion.mpr ⟨i 0, Finset.mem_univ _, (mem_oCore _ i).mpr rfl⟩

/-! ## What the handshakes carry -/

/-- The contents of the call's operands when it is made. -/
structure Operands (F : FTy → Type) (d : Dev nD) where
  t : Buf (Elt F) (tLoc d)
  p : Buf (Elt F) (pLoc d)
  i : Buf (Elt F) (iLoc d)
  o : Buf (Elt F) (oLoc d)
  bound : ∀ j, (i j).toNat < 589824

variable (v : (d : Dev nD) → Operands F d)

/-- The result of the call. -/
abbrev Operands.out {d : Dev nD} (v : Operands F d) : Buf (Elt F) (oLoc d) := gout v.t v.p v.i

/-- What SparseCore `c` is handed and hands back, the result's buffer at `f`. -/
abbrev coreRes (d : Dev nD) (c : Fin 2) (f : Buf (Elt F) (oLoc d)) : sProp 𝕄 :=
  iprop((iLoc d ↦{cq c} (v d).i) ∗ (tLoc d ↦{cq c} (v d).t) ∗ (pLoc d ↦{cq c} (v d).p) ∗ oLoc d ↦[oCore c]{fullShare} f)

/-- What its subcore `s` is. -/
abbrev subRes (d : Dev nD) (c : Fin 2) (s : Fin 16) (f : Buf (Elt F) (oLoc d)) : sProp 𝕄 :=
  tileRes d (coordsV c s) (cq c) (tq c s) (v d).t (v d).p (v d).i f

variable [FloatOps F]

def P : (K (F := F)).Pay (nD := nD) (Val := Elt F) (Name := ℕ) (U := UU) where
  st q d c := match q with | 0 => coreRes v d (Fin.cast nCore_zero c) (v d).o
  dn q d c := match q with | 0 => coreRes v d (Fin.cast nCore_zero c) (v d).out
  go q d c i := match q with | 0 => subRes v d (Fin.cast nCore_zero c) (Fin.cast nSub_zero i) (v d).o
  td q d c i := match q with | 0 => subRes v d (Fin.cast nCore_zero c) (Fin.cast nSub_zero i) (v d).out
  x := fun _ _ => iprop(emp)

instance P_storable : (P (F := F) v).IsStorable where
  st q d c := match q with
    | 0 => (inferInstance : BI.Storable (upEmb : UEmb _ 𝕄) (coreRes v d (Fin.cast nCore_zero c) (v d).o))
  dn q d c := match q with
    | 0 => (inferInstance : BI.Storable (upEmb : UEmb _ 𝕄) (coreRes v d (Fin.cast nCore_zero c) (v d).out))
  go q d c i := match q with
    | 0 => (inferInstance : BI.Storable (upEmb : UEmb _ 𝕄) (subRes v d (Fin.cast nCore_zero c) (Fin.cast nSub_zero i) (v d).o))
  td q d c i := match q with
    | 0 => (inferInstance : BI.Storable (upEmb : UEmb _ 𝕄) (subRes v d (Fin.cast nCore_zero c) (Fin.cast nSub_zero i) (v d).out))

/-! ## A subcore's task -/

theorem defs₀_vector (c : Fin τ.nSC) (s : Fin τ.nSub) :
    defs₀ (F := F) (.scVector c s) 0 ()
      = SparseCore.onTile hcore0 hsub0 (fun c s => cc0__sc_gather_body (coordsV c s)
          tV (Memref.isWhole_whole _) pV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3) ⟨⟩ c s := rfl

omit [FloatOps F] in
theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem task : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (cq (Fin.cast nCore_zero c)) (tq (Fin.cast nCore_zero c) (Fin.cast nSub_zero i))
    (v d).t (v d).p (v d).i (v d).o (v d).bound O W hO).trans (wp_mono frame _ _ fun _ => task_post)

/-! ## A SparseCore's operands are its subcores' -/

omit [FloatOps F] in
theorem three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide), SparseCore.bigSep_insert' (by decide), bigSep_singleton]

omit [FloatOps F] in
theorem coreRes_eq (d : Dev nD) (c : Fin 2) (f : Buf (Elt F) (oLoc d)) :
    (coreRes v d c f : sProp 𝕄) = bigSep Finset.univ fun s : Fin 16 => subRes v d c s f := by
  have e1 : (iLoc d ↦{cq c} (v d).i : sProp 𝕄) = bigSep Finset.univ fun s : Fin 16 => iLoc d ↦[iSet c s]{cq c} (v d).i := by
    rw [← pointsTo_biUnion Finset.univ (ℓ := iLoc d) (iSet c) (iSet_disjoint c), iSet_cover]
  have e2 : (oLoc d ↦[oCore c]{fullShare} f : sProp 𝕄)
      = bigSep Finset.univ fun s : Fin 16 => iprop((oLoc d ↦[oThird c s 0]{fullShare} f) ∗ (oLoc d ↦[oThird c s 1]{fullShare} f) ∗ oLoc d ↦[oThird c s 2]{fullShare} f) := by
    rw [pointsTo_biUnion Finset.univ (ℓ := oLoc d) (oTile c) (oTile_disjoint c)]
    refine bigSep_congr fun s _ => ?_
    rw [pointsTo_biUnion Finset.univ (ℓ := oLoc d) (oThird c s) (oThird_disjoint c s), three]
  show iprop((iLoc d ↦{cq c} (v d).i) ∗ (tLoc d ↦{cq c} (v d).t) ∗ (pLoc d ↦{cq c} (v d).p) ∗ oLoc d ↦[oCore c]{fullShare} f)
    = bigSep Finset.univ fun s : Fin 16 => iprop((iLoc d ↦[iSet c s]{cq c} (v d).i) ∗ (tLoc d ↦{leaf 4 (cq c) s} (v d).t) ∗ (pLoc d ↦{leaf 4 (cq c) s} (v d).p)
      ∗ (oLoc d ↦[oThird c s 0]{fullShare} f) ∗ (oLoc d ↦[oThird c s 1]{fullShare} f) ∗ oLoc d ↦[oThird c s 2]{fullShare} f)
  rw [e1, e2, pointsTo_leaves Finset.univ (v d).t 4 (cq c), pointsTo_leaves Finset.univ (v d).p 4 (cq c)]
  simp only [bigSep_sep']
  rfl

theorem split : (K (F := F)).VecSplit' (P v) 0 := by
  intro d c
  show iprop(coreRes v d (Fin.cast nCore_zero c) (v d).o) ⊢ |={Set.univ}=> iprop(
      (bigSep Finset.univ fun i : Fin 16 => subRes v d (Fin.cast nCore_zero c) i (v d).o)
      ∗ ((bigSep Finset.univ fun i : Fin 16 => subRes v d (Fin.cast nCore_zero c) i (v d).out)
          -∗ coreRes v d (Fin.cast nCore_zero c) (v d).out))
  rw [coreRes_eq, coreRes_eq]
  iintro H; imodintro
  isplitl [H]; · iexact H
  iintro H; iexact H

/-! ## The call's operands are the two SparseCores' -/

/-- The four buffers of the call, the result's at `f`. -/
abbrev callRes (d : Dev nD) (f : Buf (Elt F) (oLoc d)) : sProp 𝕄 :=
  iprop((iLoc d ↦{fullShare} (v d).i) ∗ (tLoc d ↦{fullShare} (v d).t) ∗ (pLoc d ↦{fullShare} (v d).p) ∗ oLoc d ↦{fullShare} f)

omit [FloatOps F] in
theorem callRes_eq (d : Dev nD) (f : Buf (Elt F) (oLoc d)) :
    (callRes v d f : sProp 𝕄) = bigSep Finset.univ fun c : Fin 2 => coreRes v d c f := by
  have e : (oLoc d ↦{fullShare} f : sProp 𝕄) = bigSep Finset.univ fun c : Fin 2 => oLoc d ↦[oCore c]{fullShare} f := by
    rw [← pointsTo_biUnion Finset.univ (ℓ := oLoc d) oCore oCore_disjoint, oCore_cover]
  unfold callRes coreRes
  rw [e, pointsTo_leaves Finset.univ (v d).i 1 fullShare, pointsTo_leaves Finset.univ (v d).t 1 fullShare, pointsTo_leaves Finset.univ (v d).p 1 fullShare]
  simp only [bigSep_sep']
  rfl

theorem st_eq (d : Dev nD) : (bigSep Finset.univ fun c : Fin ((K (F := F)).nCore 0) => (P v).st 0 d c) = (callRes v d (v d).o : sProp 𝕄) :=
  (callRes_eq v d (v d).o).symm
theorem dn_eq (d : Dev nD) : (bigSep Finset.univ fun c : Fin ((K (F := F)).nCore 0) => (P v).dn 0 d c) = (callRes v d (v d).out : sProp 𝕄) :=
  (callRes_eq v d (v d).out).symm

end Cert.Proof.Ideal

end
-- ==== Proof.Ideal.Body.lean ====
/-
  The loss kernel's body at a grid point: what it leaves in the two accumulators and, at the last point, in the result.
-/
module

public import proofs.«01_k».proof.Proof.Ideal.Setup

@[expose] public section

noncomputable section

namespace Cert.Proof.Ideal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a grid point adds -/

/-- Which groups of the block are kept. -/
def kept (g : Vec F S2x3x4x7424 .f32) (rc : Vec F S3x4x7424 .f32) (n : Vec F S4x9 .f32) : IVec S4x7424 1 :=
  let v7 := k1_pay3 n
  let v8 := k1_pay4 n
  let v9 := k1_pay5 n
  let v11 := k1_pay6 g
  let v16 := k1_pay8 rc
  let v19 := k1_pay9 rc
  let v33 := k1_pay12 g
  let v36 := k1_pay14 n g rc
  let v37 := k1_pay15 n g rc
  let v43 := k1_pay18 n rc
  let v53 := k1_pay21 v11
  let v73 := k1_pay29 v11
  let v80 := k1_pay35 v7 v11 v36 v43
  let v81 := k1_pay36 v7 v9 v11 v16 v37
  let v82 := k1_pay37 v11 v33
  let v83 := k1_pay38 v7 v8 v11 v19 v36
  let v84 := k1_pay39 v7 v9 v11 v16 v37
  let v85 := k1_pay40 v11 v33
  let v86 := k1_pay41 v7 v8 v11 v19 v43
  let v87 := k1_pay42 v7 v9 v11 v16
  let v88 := k1_pay43 v11
  let v93 := k1_pay44 v7 v9 v11 v16 v33 v36 v37 v43
  let v98 := k1_pay45 v7 v8 v9 v11 v16 v19 v33 v36 v37 v43
  let v103 := k1_pay46 v7 v8 v9 v11 v16 v19 v33 v36 v37 v43
  let v113 := k1_pay48 v83 v84 v85 v86 v87 v88
  let v118 := k1_pay49 v86 v87 v88
  let v121 := k1_pay52 v86 v87 v88
  let v129 := k1_pay53 v93
  let v137 := k1_pay54 v83 v84 v85 v93 v98
  let v145 := k1_pay55 v86 v87 v88 v93 v103
  let v153 := k1_pay56 v83 v84 v85
  let v154 := k1_pay57 v83 v84 v85 v86 v87 v88
  let cst_19 := Scalar.ofBits .f32 0x358637BD#32
  let v178 := k1_pay58 v113 v118 v121 v129 v137 v145 v153 v154 cst_19
  let v186 := k1_pay59 v33 v53 v73
  let v197 := k1_pay60 v80 v83 v86
  let v200 := k1_pay61 v81
  let v201 := k1_pay62 v84
  let cst_30 := Scalar.ofBits .f32 0x3BA3D70A#32
  let v224 := k1_pay63 v82 v85 v87 v88 v178 v186 v197 v200 v201 cst_30
  v224

/-- The first accumulator after grid point `i`, from `a` before it and the point's blocks: the gathered depths `g`, the
    pixels' words `rc` and the cameras' matrices `n`. -/
def stepA (i : grid1.Coords) (g : Vec F S2x3x4x7424 .f32) (rc : Vec F S3x4x7424 .f32) (n : Vec F S4x9 .f32) (a : F .f32) : F .f32 :=
  let arg0 := BitVec.ofNat 32 (i 0).val
  let v7 := k1_pay3 n
  let v8 := k1_pay4 n
  let v9 := k1_pay5 n
  let v11 := k1_pay6 g
  let v16 := k1_pay8 rc
  let v19 := k1_pay9 rc
  let v33 := k1_pay12 g
  let v35 := k1_pay13 g
  let v36 := k1_pay14 n g rc
  let v37 := k1_pay15 n g rc
  let v38 := k1_pay16 n g rc
  let v39 := k1_pay17 n g rc
  let v43 := k1_pay18 n rc
  let v55 := k1_pay22 v11
  let v58 := k1_pay25 v7 v11 v43
  let v59 := k1_pay26 v7 v9 v11 v16
  let v75 := k1_pay30 v11
  let v78 := k1_pay33 v7 v8 v11 v19
  let v79 := k1_pay34 v7 v9 v11 v16
  let v80 := k1_pay35 v7 v11 v36 v43
  let v81 := k1_pay36 v7 v9 v11 v16 v37
  let v82 := k1_pay37 v11 v33
  let v83 := k1_pay38 v7 v8 v11 v19 v36
  let v84 := k1_pay39 v7 v9 v11 v16 v37
  let v85 := k1_pay40 v11 v33
  let v228 := k1_pay65 v55
  let v230 := k1_pay66 v75
  let v232 := k1_pay67 v35 v38
  let v234 := k1_pay68 v39 v55
  let v236 := k1_pay69 v35 v75
  let v238 := k1_pay70 v35 v58
  let v240 := k1_pay71 v55 v59
  let v242 := k1_pay72 v55 v75
  let v244 := k1_pay73 v35 v78
  let v245 := k1_pay74 (F := F)
  let v257 := k1_pay81 v81 v82 v84 v85
  let v260 := k1_pay82 v80 v82 v83 v85
  let v263 := k1_pay83 v80 v81 v83 v84
  let v266 := k1_pay84 v75 v79 v228 v230 v234 v236 v240 v242 v245
  let v269 := k1_pay85 v75 v230 v232 v236 v238 v242 v244
  let v272 := k1_pay86 v79 v228 v232 v234 v238 v240 v244 v245
  let v284 := k1_pay87 v75 v79 v228 v230 v232 v234 v236 v238 v240 v242 v244 v245
  let v293 := k1_pay88 v80 v81 v82 v83 v84 v85
  let v299 := k1_pay89 v75 v79 v228 v230 v232 v234 v236 v238 v240 v242 v244 v245
  k1_pay91 arg0 (kept g rc n) v257 v260 v263 v266 v269 v272 v284 v293 v299 a

/-- The second accumulator after grid point `i`. -/
def stepB (i : grid1.Coords) (g : Vec F S2x3x4x7424 .f32) (rc : Vec F S3x4x7424 .f32) (n : Vec F S4x9 .f32) (b : F .f32) : F .f32 :=
  k1_pay92 (BitVec.ofNat 32 (i 0).val) (kept g rc n) b

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first accumulator's word and the second's. -/
abbrev rA : Rect S2 := Rect.unit (s := S2) ![0] S1.size inb_S2_S1_0
abbrev rB : Rect S2 := Rect.unit (s := S2) ![1] S1.size inb_S2_S1_1

/-- A staged block, loaded whole. -/
abbrev ld1 (c : Dev nD) (M : Memref sig .tc .vmem S2x3x4x7424 .f32) (f : Bf (F := F) c M) : Vec F S2x3x4x7424 .f32 :=
  View.readAt (Elt F) M.view (Rect.unit (s := S2x3x4x7424) ![0, 0, 0, 0] S2x3x4x7424.size inb_S2x3x4x7424_S2x3x4x7424_0_0_0_0).toLoadRect f
abbrev ld2 (c : Dev nD) (M : Memref sig .tc .vmem S3x4x7424 .f32) (f : Bf (F := F) c M) : Vec F S3x4x7424 .f32 :=
  View.readAt (Elt F) M.view (Rect.unit (s := S3x4x7424) ![0, 0, 0] S3x4x7424.size inb_S3x4x7424_S3x4x7424_0_0_0).toLoadRect f
abbrev ld3 (c : Dev nD) (M : Memref sig .tc .vmem S4x9 .f32) (f : Bf (F := F) c M) : Vec F S4x9 .f32 :=
  View.readAt (Elt F) M.view (Rect.unit (s := S4x9) ![0, 0] S4x9.size inb_S4x9_S4x9_0_0).toLoadRect f

/-- The two accumulators at `a` and `b`. -/
def accBuf (a b : F .f32) : S2.Idx → F .f32 := fun j => if (j 0).val = 0 then a else b

/-- The result's word; the accumulators' first value. -/
abbrev rO : Rect S1x1 := Rect.unit (s := S1x1) ![0, 0] S1x1.size inb_S1x1_S1x1_0_0
abbrev zero : F .f32 := Scalar.ofBits .f32 0x00000000#32

/-- The accumulators' buffer, as a view. -/
abbrev accV : View sig .tc .smem S2 .f32 := (Memref.whole cc1_scratch0 : Memref sig .tc .smem S2 .f32).view

theorem rA_emb (x : rA.shape.Idx) : (rA.emb x 0).val = 0 := by
  have := (x 0).isLt; change (x 0).val < 1 at this
  show 0 + 1 * (x 0).val = 0; omega
theorem rB_emb (x : rB.shape.Idx) : (rB.emb x 0).val = 1 := by
  have := (x 0).isLt; change (x 0).val < 1 at this
  show 1 + 1 * (x 0).val = 1; omega

theorem read_accA (a b : F .f32) (x : rA.shape.Idx) : View.readAt (Elt F) accV rA.toLoadRect (accBuf a b) x = a := by
  rw [View.readAt_rect]
  show accBuf a b (rA.emb x) = a
  rw [accBuf, if_pos (rA_emb x)]
theorem read_accB (a b : F .f32) (x : rB.shape.Idx) : View.readAt (Elt F) accV rB.toLoadRect (accBuf a b) x = b := by
  rw [View.readAt_rect]
  show accBuf a b (rB.emb x) = b
  rw [accBuf, if_neg (by rw [rB_emb x]; decide)]

/-- Both words written: the accumulators are what was written. -/
theorem writes_acc (f : accV.ty.Contents (Elt F)) (a b : F .f32) (l : List (View.Piece (Elt F) S2 .f32)) :
    accV.writes (Elt F) f (⟨rB, fun _ => b⟩ :: ⟨rA, fun _ => a⟩ :: l) = accBuf a b := by
  funext j
  show accV.read (Elt F) (accV.writes (Elt F) f (⟨rB, fun _ => b⟩ :: ⟨rA, fun _ => a⟩ :: l)) j = _
  have hj : (j 0).val < 2 := (j 0).isLt
  have hk : ∀ k : Fin S2.rank, k = 0 := fun k => Fin.ext (by have := k.isLt; change k.val < 1 at this; show k.val = 0; omega)
  have hx : ∀ k : Fin S1.rank, ((Shape.Idx.first (s := S1) (numel1_S1.symm ▸ Nat.one_pos)) k).val = 0 := fun k => by
    have := ((Shape.Idx.first (s := S1) (numel1_S1.symm ▸ Nat.one_pos)) k).isLt
    rw [hk k] at this ⊢
    change _ < 1 at this; omega
  by_cases h : (j 0).val = 0
  · rw [View.read_writes_cons_miss_of_axis accV f _ _ j 0 1 1 rfl rfl rfl (.inl (by omega)),
      View.read_writes_cons_hit_of_coords accV f rA _ _ (Shape.Idx.first (s := S1) (numel1_S1.symm ▸ Nat.one_pos)) j (fun k => ?_), accBuf, if_pos h]
    rw [hx k, hk k, h]; rfl
  · rw [View.read_writes_cons_hit_of_coords accV f rB _ _ (Shape.Idx.first (s := S1) (numel1_S1.symm ▸ Nat.one_pos)) j (fun k => ?_), accBuf, if_neg h]
    rw [hx k, hk k]; show (j 0).val = 1 + 1 * 0; omega

set_option maxHeartbeats 4000000 in
theorem body_mid (c : Dev nD) (i : grid1.Coords) (hi0 : (i 0).val ≠ 0) (hi3 : (i 0).val ≠ 3)
    (M1 : Memref sig .tc .vmem S2x3x4x7424 .f32) (h1 : M1.IsWhole) (M2 : Memref sig .tc .vmem S3x4x7424 .f32) (h2 : M2.IsWhole)
    (M3 : Memref sig .tc .vmem S4x9 .f32) (h3 : M3.IsWhole) (M4 : Memref sig .tc .smem S1x1 .f32) (h4 : M4.IsWhole)
    (f1 : Bf (F := F) c M1) (f2 : Bf (F := F) c M2) (f3 : Bf (F := F) c M3) (f4 : Bf (F := F) c M4) (a b : F .f32) (E : Set ℕ) (Q : PUnit → sProp 𝕄) :
    iprop(pt c M1 f1 ∗ pt c M2 f2 ∗ pt c M3 f3 ∗ pt c M4 f4 ∗ pt c (Memref.whole cc1_scratch0) (accBuf a b)
        ∗ (iprop(pt c M1 f1 ∗ pt c M2 f2 ∗ pt c M3 f3 ∗ pt c M4 f4
            ∗ pt c (Memref.whole cc1_scratch0) (accBuf (stepA i (ld1 c M1 f1) (ld2 c M2 f2) (ld3 c M3 f3) a) (stepB i (ld1 c M1 f1) (ld2 c M2 f2) (ld3 c M3 f3) b))) -∗ Q ⟨⟩))
      ⊢ wp frame (wpE (defs₀ (F := F)) 𝒱₀ c none) E (cc1__tc_loss_body i M1 h1 M2 h2 M3 h3 M4 h4 (Memref.whole cc1_scratch0) (Memref.isWhole_whole _)) Q := by
  have hb : (i 0).val < 4 := (i 0).isLt
  have hc1 : ¬ (Scalar.cmpi .ne (Scalar.extui (Scalar.cmpi .eq (BitVec.ofNat 32 (i 0).val) 0#32) : BitVec 32) 0#32 = 1#1) := by
    generalize (i 0).val = n at *; interval_cases n <;> first | contradiction | decide
  have hc2 : ¬ (k1_cond2 i = 1#1) := by
    unfold k1_cond2; generalize (i 0).val = n at *; interval_cases n <;> first | contradiction | decide
  simp only [cc1__tc_loss_body_eq_skeleton]; unfold cc1__tc_loss_body_skel
  sl_open_parts
  iintro ⟨H1, H2, H3, H4, H5, Hk⟩
  sl_exec
  sl_step
  iapply Hk
  isplitl [H1]; · iexact H1
  isplitl [H2]; · iexact H2
  isplitl [H3]; · iexact H3
  isplitl [H4]; · iexact H4
  have eb : body_mid.sl.r_1 a b = b := by unfold body_mid.sl.r_1 body_mid.sl.f; exact read_accB a b _
  have ea : body_mid.sl.r a b = a := by unfold body_mid.sl.r; exact read_accA a b _
  have e := (writes_acc (accBuf a b) (stepA i (ld1 c M1 f1) (ld2 c M2 f2) (ld3 c M3 f3) (body_mid.sl.r a b)) (stepB i (ld1 c M1 f1) (ld2 c M2 f2) (ld3 c M3 f3) (body_mid.sl.r_1 a b)) []).trans
    (show _ = accBuf (stepA i (ld1 c M1 f1) (ld2 c M2 f2) (ld3 c M3 f3) a) (stepB i (ld1 c M1 f1) (ld2 c M2 f2) (ld3 c M3 f3) b) by rw [ea, eb])
  iapply (Entails.of_eq (pointsTo_congr fun j _ => congrFun e j))
  iexact H5

set_option maxHeartbeats 4000000 in
theorem body_first (c : Dev nD) (i : grid1.Coords) (hi0 : (i 0).val = 0)
    (M1 : Memref sig .tc .vmem S2x3x4x7424 .f32) (h1 : M1.IsWhole) (M2 : Memref sig .tc .vmem S3x4x7424 .f32) (h2 : M2.IsWhole)
    (M3 : Memref sig .tc .vmem S4x9 .f32) (h3 : M3.IsWhole) (M4 : Memref sig .tc .smem S1x1 .f32) (h4 : M4.IsWhole)
    (f1 : Bf (F := F) c M1) (f2 : Bf (F := F) c M2) (f3 : Bf (F := F) c M3) (f4 : Bf (F := F) c M4) (f5 : Bf (F := F) c (Memref.whole cc1_scratch0 : Memref sig .tc .smem S2 .f32)) (E : Set ℕ) (Q : PUnit → sProp 𝕄) :
    iprop(pt c M1 f1 ∗ pt c M2 f2 ∗ pt c M3 f3 ∗ pt c M4 f4 ∗ pt c (Memref.whole cc1_scratch0) f5
        ∗ (iprop(pt c M1 f1 ∗ pt c M2 f2 ∗ pt c M3 f3 ∗ pt c M4 f4
            ∗ pt c (Memref.whole cc1_scratch0) (accBuf (stepA i (ld1 c M1 f1) (ld2 c M2 f2) (ld3 c M3 f3) zero) (stepB i (ld1 c M1 f1) (ld2 c M2 f2) (ld3 c M3 f3) zero))) -∗ Q ⟨⟩))
      ⊢ wp frame (wpE (defs₀ (F := F)) 𝒱₀ c none) E (cc1__tc_loss_body i M1 h1 M2 h2 M3 h3 M4 h4 (Memref.whole cc1_scratch0) (Memref.isWhole_whole _)) Q := by
  have hb : (i 0).val < 4 := (i 0).isLt
  have hc1 : Scalar.cmpi .ne (Scalar.extui (Scalar.cmpi .eq (BitVec.ofNat 32 (i 0).val) 0#32) : BitVec 32) 0#32 = 1#1 := by rw [hi0]; decide
  have hc2 : ¬ (k1_cond2 i = 1#1) := by unfold k1_cond2; rw [hi0]; decide
  simp only [cc1__tc_loss_body_eq_skeleton]; unfold cc1__tc_loss_body_skel
  sl_open_parts
  iintro ⟨H1, H2, H3, H4, H5, Hk⟩
  sl_exec
  sl_step
  iapply Hk
  isplitl [H1]; · iexact H1
  isplitl [H2]; · iexact H2
  isplitl [H3]; · iexact H3
  isplitl [H4]; · iexact H4
  have e := writes_acc f5 (stepA i (ld1 c M1 f1) (ld2 c M2 f2) (ld3 c M3 f3) zero)
    (stepB i (ld1 c M1 f1) (ld2 c M2 f2) (ld3 c M3 f3) zero)
    [⟨rB, fun _ => zero⟩, ⟨rA, fun _ => zero⟩]
  iapply (Entails.of_eq (pointsTo_congr fun j _ => congrFun e j)); iexact H5

set_option maxHeartbeats 4000000 in
theorem body_last (c : Dev nD) (i : grid1.Coords) (hi3 : (i 0).val = 3)
    (M1 : Memref sig .tc .vmem S2x3x4x7424 .f32) (h1 : M1.IsWhole) (M2 : Memref sig .tc .vmem S3x4x7424 .f32) (h2 : M2.IsWhole)
    (M3 : Memref sig .tc .vmem S4x9 .f32) (h3 : M3.IsWhole) (M4 : Memref sig .tc .smem S1x1 .f32) (h4 : M4.IsWhole)
    (f1 : Bf (F := F) c M1) (f2 : Bf (F := F) c M2) (f3 : Bf (F := F) c M3) (f4 : Bf (F := F) c M4) (a b : F .f32) (E : Set ℕ) (Q : PUnit → sProp 𝕄) :
    iprop(pt c M1 f1 ∗ pt c M2 f2 ∗ pt c M3 f3 ∗ pt c M4 f4 ∗ pt c (Memref.whole cc1_scratch0) (accBuf a b)
        ∗ (iprop(pt c M1 f1 ∗ pt c M2 f2 ∗ pt c M3 f3
            ∗ pt c M4 (M4.view.writes (Elt F) f4 [⟨rO, fun _ => k1_pay1 (stepA i (ld1 c M1 f1) (ld2 c M2 f2) (ld3 c M3 f3) a) (stepB i (ld1 c M1 f1) (ld2 c M2 f2) (ld3 c M3 f3) b)⟩])
            ∗ pt c (Memref.whole cc1_scratch0) (accBuf (stepA i (ld1 c M1 f1) (ld2 c M2 f2) (ld3 c M3 f3) a) (stepB i (ld1 c M1 f1) (ld2 c M2 f2) (ld3 c M3 f3) b))) -∗ Q ⟨⟩))
      ⊢ wp frame (wpE (defs₀ (F := F)) 𝒱₀ c none) E (cc1__tc_loss_body i M1 h1 M2 h2 M3 h3 M4 h4 (Memref.whole cc1_scratch0) (Memref.isWhole_whole _)) Q := by
  have hb : (i 0).val < 4 := (i 0).isLt
  have hc1 : ¬ (Scalar.cmpi .ne (Scalar.extui (Scalar.cmpi .eq (BitVec.ofNat 32 (i 0).val) 0#32) : BitVec 32) 0#32 = 1#1) := by rw [hi3]; decide
  have hc2 : k1_cond2 i = 1#1 := by unfold k1_cond2; rw [hi3]; decide
  simp only [cc1__tc_loss_body_eq_skeleton]; unfold cc1__tc_loss_body_skel
  sl_open_parts
  iintro ⟨H1, H2, H3, H4, H5, Hk⟩
  sl_exec
  sl_step
  iapply Hk
  isplitl [H1]; · iexact H1
  isplitl [H2]; · iexact H2
  isplitl [H3]; · iexact H3
  have eb : body_last.sl.r_1 a b = b := by
    unfold body_last.sl.r_1 body_last.sl.f; exact read_accB a b _
  have ea : body_last.sl.r a b = a := by
    unfold body_last.sl.r; exact read_accA a b _
  have e2 : body_last.sl.r_2 c i M1 M2 M3 f1 f2 f3 a b = stepA i (ld1 c M1 f1) (ld2 c M2 f2) (ld3 c M3 f3) a :=
    (show _ = stepA i (ld1 c M1 f1) (ld2 c M2 f2) (ld3 c M3 f3) (body_last.sl.r a b) by
      unfold body_last.sl.r_2; rfl).trans (by rw [ea])
  have e3 : body_last.sl.r_3 c i M1 M2 M3 f1 f2 f3 a b = stepB i (ld1 c M1 f1) (ld2 c M2 f2) (ld3 c M3 f3) b :=
    (show _ = stepB i (ld1 c M1 f1) (ld2 c M2 f2) (ld3 c M3 f3) (body_last.sl.r_1 a b) by
      unfold body_last.sl.r_3; rfl).trans (by rw [eb])
  have e := (writes_acc (accBuf a b) (stepA i (ld1 c M1 f1) (ld2 c M2 f2) (ld3 c M3 f3) (body_last.sl.r a b))
    (stepB i (ld1 c M1 f1) (ld2 c M2 f2) (ld3 c M3 f3) (body_last.sl.r_1 a b)) []).trans
    (show _ = accBuf (stepA i (ld1 c M1 f1) (ld2 c M2 f2) (ld3 c M3 f3) a)
      (stepB i (ld1 c M1 f1) (ld2 c M2 f2) (ld3 c M3 f3) b) by rw [ea, eb])
  isplitl [H4]
  · rw [← e2, ← e3]; iexact H4
  iapply (Entails.of_eq (pointsTo_congr fun j _ => congrFun e j)); iexact H5

end Cert.Proof.Ideal

end
-- ==== Proof.Ideal.Region.lean ====
/-
  The TensorCore call as the launch theorem takes it: four points, each a block of 7424 groups; between them the two
  accumulators hold the sum and the count over the blocks so far (`acc`), and the last point writes the loss they make
  into the result (`tcRes`). The call is entered from every unscoped buffer at a valuation and left at that valuation
  with the result's array at what was written.
-/
module

public import proofs.«01_k».proof.Proof.Ideal.Body
public import Idealize.ShloMosaic.Lib.Pipeline.FrameBody
public import Idealize.ShloMosaic.Lib.Pipeline.Value
public import Idealize.ShloMosaic.Lib.Pipeline.RegionsLoop
public import Idealize.ShloMosaic.Lib.VecWindow

@[expose] public section

noncomputable section

namespace Cert.Proof.Ideal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (V : (c : Dev nD) → (b : Ref sig .tc) → Buf (Elt F) ((c : Thread nD τ).loc b))

/-! ## The blocks and the accumulators -/

/-- The blocks of the gathered words, of the rows and columns, and the camera matrices, at a point. -/
abbrev gB (c : Dev nD) (t : Fin cfg1.N) : FVec F S2x3x4x7424 .f32 := (win1_0.blk t).view.read (Elt F) (V c main_v18)
abbrev rcB (c : Dev nD) (t : Fin cfg1.N) : FVec F S3x4x7424 .f32 := (win1_1.blk t).view.read (Elt F) (V c main_v15)
abbrev nB (c : Dev nD) (t : Fin cfg1.N) : FVec F S4x9 .f32 := (win1_2.blk t).view.read (Elt F) (V c main_v19)

/-- The accumulators after the first `n` points. -/
def acc (c : Dev nD) : ℕ → F .f32 × F .f32
  | 0 => (zero, zero)
  | n + 1 =>
    if h : n < cfg1.N then
      (stepA (grid1.coords ⟨n, h⟩) (gB V c ⟨n, h⟩) (rcB V c ⟨n, h⟩) (nB V c ⟨n, h⟩) (acc c n).1,
        stepB (grid1.coords ⟨n, h⟩) (gB V c ⟨n, h⟩) (rcB V c ⟨n, h⟩) (nB V c ⟨n, h⟩) (acc c n).2)
    else acc c n

theorem acc_succ (c : Dev nD) (t : Fin cfg1.N) :
    acc V c (t.val + 1) = (stepA (grid1.coords t) (gB V c t) (rcB V c t) (nB V c t) (acc V c t.val).1,
      stepB (grid1.coords t) (gB V c t) (rcB V c t) (nB V c t) (acc V c t.val).2) := by
  rw [acc, dif_pos t.isLt]

/-- What the last point writes. -/
def tcRes (c : Dev nD) : Buf (Elt F) ((c : Thread nD τ).loc main_v20) := fun _ => k1_pay1 (acc V c 4).1 (acc V c 4).2

/-- Between points: the accumulators' buffer, at the accumulators once a point has run. -/
def Φc (c : Dev nD) (n : ℕ) : sProp 𝕄 :=
  iprop(∃ f, ⌜n ≠ 0 → f = accBuf (acc V c n).1 (acc V c n).2⌝ ∗ pt c (Memref.whole cc1_scratch0) f)

/-- The pairs a wait of the core's may have recorded before the call. -/
def okPairs (c : Dev nD) : Set (SemLoc sig × HIx 1) := {p | (K (F := F)).lev ((c : Thread nD τ), p.1) p.2 ≤ 8}

def dat (c : Dev nD) : Dat τ (Elt F) (HIx 1) ℕ UU ℕ cfg1 c where
  A w := V c (Pipeline.arrRef spec1 w)
  after w t := match w with
    | ⟨0, _⟩ => gB V c t
    | ⟨1, _⟩ => rcB V c t
    | ⟨2, _⟩ => nB V c t
    | ⟨3, _⟩ => fun _ => k1_pay1 (acc V c 4).1 (acc V c 4).2
  Φ t := Φc V c t.val
  q _ := fullShare
  owed _ := 0
  recorded _ := okPairs (F := F) c

def pdats (adm : (p : Fin 1) → (pcfgs (F := F) p).Adm) : (p : Fin 1) → (c : Dev nD) → Dat τ (Elt F) (HIx 1) ℕ UU ℕ (Pipeline.pin (pcfgs (F := F)) adm p) c
  | ⟨0, _⟩ => fun c => dat V c

theorem before0 (c : Dev nD) (t : Fin cfg1.N) (d) : (dat V c).before 0 t d = gB V c t := by
  rw [(dat V c).before_in_eq_fetched 0 rfl (fun _ => rfl) (fun _ _ _ => rfl) (fun _ => rfl)]; rfl
theorem before1 (c : Dev nD) (t : Fin cfg1.N) (d) : (dat V c).before 1 t d = rcB V c t := by
  rw [(dat V c).before_in_eq_fetched 1 rfl (fun _ => rfl) (fun _ _ _ => rfl) (fun _ => rfl)]; rfl
theorem before2 (c : Dev nD) (t : Fin cfg1.N) (d) : (dat V c).before 2 t d = nB V c t := by
  rw [(dat V c).before_in_eq_fetched 2 rfl (fun _ => rfl) (fun _ _ _ => rfl) (fun _ => rfl)]; rfl

theorem coords_val (t : Fin cfg1.N) : ((grid1.coords t) 0).val = t.val := by
  revert t; decide

theorem last_flush (t : Fin cfg1.N) (h : t.val = 3) : (cfg1.win 3).flush t = true := (flush1_3 t).mpr (by rw [h])
theorem early_flush (t : Fin cfg1.N) (h : t.val ≠ 3) : (cfg1.win 3).flush t = false := by
  have h4 : t.val < 4 := t.isLt
  have := mt (flush1_3 t).mp (by omega)
  simpa using this
theorem early_idle : ∀ t : Fin cfg1.N, t.val ≠ 3 → cfg1.idle 3 (cfg1.grid.coords t) = true := by decide

/-- A whole memref owned is its buffer held. -/
theorem owns_pt (c : Dev nD) {sp : Space} {s : Shape} {e : EltTy} (M : Memref sig .tc sp s e) (h : M.IsWhole) (X : s.Idx → Elt F e) :
    (owns (c : Thread nD τ) M fullShare X : sProp 𝕄) = iprop(∃ f : Bf (F := F) c M, ⌜M.view.read (Elt F) f = X⌝ ∗ pt c M f) := by
  unfold owns; rw [h.set_eq_univ]

/-- One point over the staging buffers, the accumulators carried. -/
theorem body_at (c : Dev nD) (t : Fin cfg1.N)
    (M1 : Memref sig .tc .vmem S2x3x4x7424 .f32) (h1 : M1.IsWhole) (M2 : Memref sig .tc .vmem S3x4x7424 .f32) (h2 : M2.IsWhole)
    (M3 : Memref sig .tc .vmem S4x9 .f32) (h3 : M3.IsWhole) (M4 : Memref sig .tc .smem S1x1 .f32) (h4 : M4.IsWhole)
    (X4 : S1x1.Idx → F .f32) (E : Set ℕ) (R : sProp 𝕄) :
    iprop(Φc V c t.val ∗ R ∗ owns (c : Thread nD τ) M1 fullShare (gB V c t) ∗ owns (c : Thread nD τ) M2 fullShare (rcB V c t)
        ∗ owns (c : Thread nD τ) M3 fullShare (nB V c t) ∗ owns (c : Thread nD τ) M4 fullShare X4)
      ⊢ wp frame (wpE (defs₀ (F := F)) 𝒱₀ c none) E (cc1__tc_loss_body (grid1.coords t) M1 h1 M2 h2 M3 h3 M4 h4 (Memref.whole cc1_scratch0) (Memref.isWhole_whole _)) fun _ => iprop(Φc V c (t.val + 1) ∗ R ∗ owns (c : Thread nD τ) M1 fullShare (gB V c t) ∗ owns (c : Thread nD τ) M2 fullShare (rcB V c t)
        ∗ owns (c : Thread nD τ) M3 fullShare (nB V c t)
        ∗ owns (c : Thread nD τ) M4 fullShare (if t.val = 3 then (fun _ => k1_pay1 (acc V c 4).1 (acc V c 4).2) else X4)) := by
  have hc := coords_val t
  unfold Φc
  simp only [owns_pt c M1 h1, owns_pt c M2 h2, owns_pt c M3 h3, owns_pt c M4 h4]
  iintro ⟨⟨%f5, %hf5, H5⟩, HR, ⟨%f1, %e1, H1⟩, ⟨%f2, %e2, H2⟩, ⟨%f3, %e3, H3⟩, ⟨%f4, %e4, H4⟩⟩
  have l1 : ld1 c M1 f1 = gB V c t := (View.readAt_full _ _ _).trans e1
  have l2 : ld2 c M2 f2 = rcB V c t := (View.readAt_full _ _ _).trans e2
  have l3 : ld3 c M3 f3 = nB V c t := (View.readAt_full _ _ _).trans e3
  by_cases h0 : t.val = 0
  · iapply (body_first c (grid1.coords t) (by rw [hc, h0]) M1 h1 M2 h2 M3 h3 M4 h4 f1 f2 f3 f4 f5 E _)
    isplitl [H1]; · iexact H1
    isplitl [H2]; · iexact H2
    isplitl [H3]; · iexact H3
    isplitl [H4]; · iexact H4
    isplitl [H5]; · iexact H5
    rw [l1, l2, l3]
    iintro ⟨H1, H2, H3, H4, H5⟩
    isplitl [H5]
    · iexists _; isplitr; swap; (· iexact H5); ipureintro; intro _; rw [acc_succ, h0]; rfl
    isplitl [HR]; · iexact HR
    isplitl [H1]; · iexists _; isplitr; swap; (· iexact H1); ipureintro; exact e1
    isplitl [H2]; · iexists _; isplitr; swap; (· iexact H2); ipureintro; exact e2
    isplitl [H3]; · iexists _; isplitr; swap; (· iexact H3); ipureintro; exact e3
    iexists _; isplitr; swap; (· iexact H4); ipureintro; rw [if_neg (by omega)]; exact e4
  · obtain rfl := hf5 h0
    by_cases h3' : t.val = 3
    · iapply (body_last c (grid1.coords t) (by rw [hc, h3']) M1 h1 M2 h2 M3 h3 M4 h4 f1 f2 f3 f4 _ _ E _)
      isplitl [H1]; · iexact H1
      isplitl [H2]; · iexact H2
      isplitl [H3]; · iexact H3
      isplitl [H4]; · iexact H4
      isplitl [H5]; · iexact H5
      rw [l1, l2, l3]
      iintro ⟨H1, H2, H3, H4, H5⟩
      have ha := acc_succ V c t
      isplitl [H5]
      · iexists _; isplitr; swap; (· iexact H5); ipureintro; intro _; rw [ha]
      isplitl [HR]; · iexact HR
      isplitl [H1]; · iexists _; isplitr; swap; (· iexact H1); ipureintro; exact e1
      isplitl [H2]; · iexists _; isplitr; swap; (· iexact H2); ipureintro; exact e2
      isplitl [H3]; · iexists _; isplitr; swap; (· iexact H3); ipureintro; exact e3
      iexists _; isplitr; swap; (· iexact H4); ipureintro; rw [if_pos h3']
      rw [show (4 : ℕ) = t.val + 1 by omega, ha]
      exact View.read_writes_full _ _ _ _ _
    · iapply (body_mid c (grid1.coords t) (by rw [hc]; exact h0) (by rw [hc]; exact h3') M1 h1 M2 h2 M3 h3 M4 h4 f1 f2 f3 f4 _ _ E _)
      isplitl [H1]; · iexact H1
      isplitl [H2]; · iexact H2
      isplitl [H3]; · iexact H3
      isplitl [H4]; · iexact H4
      isplitl [H5]; · iexact H5
      rw [l1, l2, l3]
      iintro ⟨H1, H2, H3, H4, H5⟩
      isplitl [H5]
      · iexists _; isplitr; swap; (· iexact H5); ipureintro; intro _; rw [acc_succ]
      isplitl [HR]; · iexact HR
      isplitl [H1]; · iexists _; isplitr; swap; (· iexact H1); ipureintro; exact e1
      isplitl [H2]; · iexists _; isplitr; swap; (· iexact H2); ipureintro; exact e2
      isplitl [H3]; · iexists _; isplitr; swap; (· iexact H3); ipureintro; exact e3
      iexists _; isplitr; swap; (· iexact H4); ipureintro; rw [if_neg h3']; exact e4

theorem last_live : ∀ t : Fin cfg1.N, t.val = 3 → cfg1.idle 3 (cfg1.grid.coords t) = false := by decide

/-- What the body leaves in the result's staging buffer: the loss at the last point, before it what stood there. -/
theorem leaves_result (c : Dev nD) (t : Fin cfg1.N) (d) :
    (owns (c : Thread nD τ) (win1_3.stage (cfg1.slots t 3)) fullShare
      (if t.val = 3 then (fun _ => k1_pay1 (acc V c 4).1 (acc V c 4).2) else (dat V c).before 3 t d) : sProp 𝕄) ⊢ (dat V c).leavesExact 3 t := by
  by_cases h3 : t.val = 3
  · unfold Dat.leavesExact
    rw [if_pos h3, last_live t h3]; exact .rfl
  · rw [(dat V c).leavesExact_idle 3 t (early_idle t h3) (early_flush t h3), if_neg h3]
    iintro H; iexists d; iexact H

set_option maxHeartbeats 1000000 in
/-- The body at every point. -/
theorem body_obligation (c : Dev nD) : BodyObligation (dat V c) (defs₀ (F := F)) 𝒱₀ (default : HIx 1) Set.univ := fun t => by
  have h4 : t.val < 4 := t.isLt
  rw [bigSep_W1, bigSep_W1]
  rw [show (dat V c).Φ t.castSucc = Φc V c t.val from rfl, show (dat V c).Φ t.succ = Φc V c (t.val + 1) from rfl,
    show (dat V c).owesAt (default : HIx 1) t.succ = (dat V c).owesAt (default : HIx 1) t.castSucc from rfl]
  dsimp only
  iintro ⟨HΦ, Howes, ⟨%d0, H0⟩, ⟨%d1, H1⟩, ⟨%d2, H2⟩, ⟨%d3, H3⟩⟩
  rw [before0, before1, before2]
  iapply ((body_at V c t _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3))
    ((dat V c).before 3 t d3) Set.univ ((dat V c).owesAt (default : HIx 1) t.castSucc)).trans (wp_mono frame _ _ fun _ => ?_)) $$ [HΦ Howes H0 H1 H2 H3]
  · iintro ⟨HΦ, Howes, H0, H1, H2, H3⟩
    isplitl [HΦ]; · iexact HΦ
    isplitl [Howes]; · iexact Howes
    isplitl [H0]; · iexact H0
    isplitl [H1]; · iexact H1
    isplitl [H2]; · iexact H2
    iapply (leaves_result V c t d3); iexact H3
  · isplitl [HΦ]; · iexact HΦ
    isplitl [Howes]; · iexact Howes
    isplitl [H0]; · iexact H0
    isplitl [H1]; · iexact H1
    isplitl [H2]; · iexact H2
    iexact H3

/-! ## The call over the thread's state -/

/-- The result's array after the call. -/
theorem arrAt_result (c : Dev nD) : (dat V c).arrAt 3 cfg1.N = tcRes V c := by
  refine (dat V c).arrAt_eq_of_cover 3 (tcRes V c) (fun t _ => rfl) fun i => ⟨t1_3, last_flush _ rfl, ?_⟩
  have hs : Subsingleton S1x1.Idx := Fintype.card_le_one_iff_subsingleton.mp (le_of_eq (Shape.card_idx (s := S1x1)))
  rw [show i = (win1_3.blk t1_3).view.emb (Shape.Idx.first (s := S1x1) (by decide)) from hs.elim _ _]
  exact Finset.mem_map_of_mem _ (Finset.mem_univ _)

/-- The TensorCore's unscoped buffers. -/
def ucRefs : Finset (DevRef τ sig) := (StableHlo.tcRefs τ sig).filter fun b => ¬ b.isScoped

omit [FloatOps F] [∀ e, Nonempty (Elt F e)] in
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- What the core owes around the call: nothing, its recorded waits at the call's levels. -/
abbrev owesC (c : Dev nD) : sProp 𝕄 := iprop(∃ W, ⌜(K (F := F)).WBelow (c : Thread nD τ) W 8⌝ ∗ owes (c : Thread nD τ) (0 : CellTallies nD τ sig (HIx 1)) W)

variable (adm : (p : Fin 1) → (pcfgs (F := F) p).Adm)
variable (Vp : (c : Dev nD) → (b : Ref sig .tc) → Buf (Elt F) ((c : Thread nD τ).loc b))

set_option backward.isDefEq.respectTransparency.types false in
/-- The call, from the unscoped buffers at `V` to them at `Vp`, which differs from `V` in the result alone. -/
def reg (hVp_out : ∀ c, Vp c main_v20 = tcRes V c) (hVp_ne : ∀ c (b : Ref sig .tc), b ≠ main_v20 → Vp c b = V c b) :
    Pipeline.RegionSeg (pcfgs (F := F)) adm (pdats V adm) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ owesC (F := F) c)
  post c := iprop(unscopedBufs c (Vp c) ∗ owesC (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 0 c).Φ 0 = Φc V c 0 from rfl]
    rw [scopedRest1_eq]
    unfold Φc
    iintro ⟨-, -, %f, Hr⟩
    iexists f; isplitr; · ipureintro; exact fun h => absurd rfl h
    iexact Hr
  hout c := by
    rw [Pipeline.ownSems0_none, show (pdats V adm 0 c).Φ (Fin.last _) = Φc V c 4 from rfl, scopedRest1_eq]
    unfold Φc
    iintro ⟨%f, -, Hr⟩
    isplitr; · iempintro
    isplitr; · iempintro
    iexists f; iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v18 (by decide)).symm
        · exact ((pdats V adm 0 c).arrAt_in 1 rfl _).trans (hVp_ne c main_v15 (by decide)).symm
        · exact ((pdats V adm 0 c).arrAt_in 2 rfl _).trans (hVp_ne c main_v19 (by decide)).symm
        · exact (arrAt_result V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, h⟩
    · exact h
    · rw [h]; exact Nat.zero_le 8

end Cert.Proof.Ideal
-- ==== Proof.Ideal.Host.lean ====
/-
  The host's part of the program: the operations before the SparseCore call (`pre`), which pad the table of pixels, number
  its words and write its rows and columns as one word each; the reshape of the camera matrices between the two calls; and
  that of the result.
-/
module

public import proofs.«01_k».proof.Proof.Ideal.Call
public import proofs.«01_k».proof.Proof.Ideal.Region

@[expose] public section

noncomputable section

namespace Cert.Proof.Ideal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (seq seqK after held launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-! ## The host's operations -/

/-- The operations before the SparseCore call. -/
def pre : List (HloOp τ sig (Elt F)) := [
  StableHlo.nullary main_c (constantI S_ 32 0#32),
  StableHlo.TRef.unary (.of main_c : StableHlo.TRef sig ⟨S_, .i32⟩) main_call0.v0 id,
  StableHlo.TRef.binary (.of main_arg4 : StableHlo.TRef sig ⟨S3x4x29491, .i32⟩) main_call0.v0 main_call0.v1 (fun x v => pad S3x4x29696 ![0, 0, 0] ![0, 0, 205] ![0, 0, 0] x v pads_S3x4x29491_S3x4x29696_000_000_02050 h_S_),
  StableHlo.nullary main_v1 (iotaInDim S4 32 0),
  StableHlo.nullary main_c_0 (constantI S_ 32 147456#32),
  StableHlo.unary main_c_0 main_v2 (broadcastInDim S4 ![] bcast_S_S4 : (⟨S_, .i32⟩ : BufTy).Contents (Elt F) → (⟨S4, .i32⟩ : BufTy).Contents (Elt F)),
  StableHlo.binary main_v1 main_v2 main_v3 (muli : (⟨S4, .i32⟩ : BufTy).Contents (Elt F) → (⟨S4, .i32⟩ : BufTy).Contents (Elt F) → (⟨S4, .i32⟩ : BufTy).Contents (Elt F)),
  StableHlo.unary main_v3 main_v4 (broadcastInDim S1x4x1 ![1] bcast_S4_S1x4x1_1 : (⟨S4, .i32⟩ : BufTy).Contents (Elt F) → (⟨S1x4x1, .i32⟩ : BufTy).Contents (Elt F)),
  StableHlo.unary main_v4 main_v5 (broadcastInDim S3x4x29696 ![0, 1, 2] bcast_S1x4x1_S3x4x29696_0_1_2 : (⟨S1x4x1, .i32⟩ : BufTy).Contents (Elt F) → (⟨S3x4x29696, .i32⟩ : BufTy).Contents (Elt F)),
  StableHlo.binary main_v0 main_v5 main_v6 (addi : (⟨S3x4x29696, .i32⟩ : BufTy).Contents (Elt F) → (⟨S3x4x29696, .i32⟩ : BufTy).Contents (Elt F) → (⟨S3x4x29696, .i32⟩ : BufTy).Contents (Elt F)),
  StableHlo.reshape main_v6 main_v7 (rfl : (.i32 : EltTy) = .i32) shapeCasts_S3x4x29696_S16x22272,
  StableHlo.nullary main_c_1 (constantI S_ 32 384#32),
  StableHlo.unary main_c_1 main_v8 (broadcastInDim S3x4x29696 ![] bcast_S_S3x4x29696 : (⟨S_, .i32⟩ : BufTy).Contents (Elt F) → (⟨S3x4x29696, .i32⟩ : BufTy).Contents (Elt F)),
  StableHlo.binary main_v0 main_v8 main_v9 (Host.divsi : (⟨S3x4x29696, .i32⟩ : BufTy).Contents (Elt F) → (⟨S3x4x29696, .i32⟩ : BufTy).Contents (Elt F) → (⟨S3x4x29696, .i32⟩ : BufTy).Contents (Elt F)),
  StableHlo.nullary main_c_2 (constantI S_ 32 512#32),
  StableHlo.unary main_c_2 main_v10 (broadcastInDim S3x4x29696 ![] bcast_S_S3x4x29696 : (⟨S_, .i32⟩ : BufTy).Contents (Elt F) → (⟨S3x4x29696, .i32⟩ : BufTy).Contents (Elt F)),
  StableHlo.binary main_v9 main_v10 main_v11 (muli : (⟨S3x4x29696, .i32⟩ : BufTy).Contents (Elt F) → (⟨S3x4x29696, .i32⟩ : BufTy).Contents (Elt F) → (⟨S3x4x29696, .i32⟩ : BufTy).Contents (Elt F)),
  StableHlo.nullary main_c_3 (constantI S_ 32 384#32),
  StableHlo.unary main_c_3 main_v12 (broadcastInDim S3x4x29696 ![] bcast_S_S3x4x29696 : (⟨S_, .i32⟩ : BufTy).Contents (Elt F) → (⟨S3x4x29696, .i32⟩ : BufTy).Contents (Elt F)),
  StableHlo.binary main_v0 main_v12 main_v13 (Host.remsi : (⟨S3x4x29696, .i32⟩ : BufTy).Contents (Elt F) → (⟨S3x4x29696, .i32⟩ : BufTy).Contents (Elt F) → (⟨S3x4x29696, .i32⟩ : BufTy).Contents (Elt F)),
  StableHlo.binary main_v11 main_v13 main_v14 (addi : (⟨S3x4x29696, .i32⟩ : BufTy).Contents (Elt F) → (⟨S3x4x29696, .i32⟩ : BufTy).Contents (Elt F) → (⟨S3x4x29696, .i32⟩ : BufTy).Contents (Elt F)),
  StableHlo.unary main_v14 main_v15 (sitofp .f32 : (⟨S3x4x29696, .i32⟩ : BufTy).Contents (Elt F) → (⟨S3x4x29696, .f32⟩ : BufTy).Contents (Elt F)),
  StableHlo.reshape main_arg1 main_v16 (rfl : (.f32 : EltTy) = .f32) shapeCasts_S4x1x384x384_S589824,
  StableHlo.reshape main_arg0 main_v17 (rfl : (.f32 : EltTy) = .f32) shapeCasts_S4x1x384x384_S589824]

/-- The reshape of the camera matrices, and of the result. -/
def mid : HloOp τ sig (Elt F) := StableHlo.reshape main_arg3 main_v19 (rfl : (.f32 : EltTy) = .f32) shapeCasts_S4x3x3_S4x9
def fin : HloOp τ sig (Elt F) := StableHlo.reshape main_v20 main_v21 (rfl : (.f32 : EltTy) = .f32) shapeCasts_S1x1_S_

abbrev ΛC : Labels := SparseCore.Sig (Pipeline.Sig Λ₀ (Fin 1) fun p => (pcfgs (F := F) p).Adm) 1

/-- @main, step by step. -/
def stepped (d : Dev nD) : Prog (TpuEff nD τ sig (Elt F) (ΛC (F := F)) .tc) PUnit :=
  seq pre >>= fun _ =>
    (sc (F := F)).run d 0 >>= fun _ =>
    (hlo rfl mid fun _ => .ret (⟨⟩ : PUnit)) >>= fun _ =>
      (Prog.lift (.customCall (SparseCore.inner (Pipeline.entry 0)) ())) >>= fun _ =>
        (hlo rfl fin fun _ => .ret (⟨⟩ : PUnit))

theorem main_eq (d : Dev nD) : main (F := F) d = stepped d := rfl

theorem mem_uc {r : Ref sig .tc} (h : r.isScoped = false) : Proc.devRef (τ := τ) .tc r ∈ ucRefs :=
  Finset.mem_filter.2 ⟨StableHlo.devRef_mem_tcRefs r, fun h' => by
    have e : (Proc.devRef (τ := τ) .tc r).isScoped = r.isScoped := rfl
    rw [e, h] at h'; exact Bool.noConfusion h'⟩
theorem uc1 {y : Ref sig .tc} (hy : y.isScoped = false) : ({Proc.devRef (τ := τ) .tc y} : Finset (DevRef τ sig)) ⊆ ucRefs :=
  Finset.singleton_subset_iff.2 (mem_uc hy)
theorem uc2 {x y : Ref sig .tc} (hx : x.isScoped = false) (hy : y.isScoped = false) :
    ({Proc.devRef (τ := τ) .tc x, Proc.devRef (τ := τ) .tc y} : Finset (DevRef τ sig)) ⊆ ucRefs :=
  Finset.insert_subset (mem_uc hx) (uc1 hy)
theorem uc3 {x y z : Ref sig .tc} (hx : x.isScoped = false) (hy : y.isScoped = false) (hz : z.isScoped = false) :
    ({Proc.devRef (τ := τ) .tc x, Proc.devRef (τ := τ) .tc y, Proc.devRef (τ := τ) .tc z} : Finset (DevRef τ sig)) ⊆ ucRefs :=
  Finset.insert_subset (mem_uc hx) (uc2 hy hz)

theorem pre_sub : ∀ op ∈ pre (F := F), op.bufs ⊆ ucRefs :=
  List.forall_iff_forall_mem.1 (by
    refine ⟨?_, ?_, ?_, ?_, ?_, ?_, ?_, ?_, ?_, ?_, ?_, ?_, ?_, ?_, ?_, ?_, ?_, ?_, ?_, ?_, ?_, ?_, ?_, ?_⟩
    all_goals first
      | exact uc1 (by decide)
      | exact uc2 (by decide) (by decide)
      | exact uc3 (by decide) (by decide) (by decide))
theorem pre_fresh : ∀ op ∈ pre (F := F), op.fresh = ∅ :=
  List.forall_iff_forall_mem.1 (by refine ⟨?_, ?_, ?_, ?_, ?_, ?_, ?_, ?_, ?_, ?_, ?_, ?_, ?_, ?_, ?_, ?_, ?_, ?_, ?_, ?_, ?_, ?_, ?_, ?_⟩ <;> rfl)
theorem mid_sub : (mid (F := F)).bufs ⊆ ucRefs := uc2 (by decide) (by decide)
theorem fin_sub : (fin (F := F)).bufs ⊆ ucRefs := uc2 (by decide) (by decide)

end Cert.Proof.Ideal

end
-- ==== Proof.Ideal.Launch.lean ====
/-
  The whole program: the host's operations before the SparseCore call, the call, the reshape of the camera matrices, the
  TensorCore call and the reshape of its one word. The core's arrays are held at contents that each step rewrites
  (`X1` … `X5`), and the launch ends with the result at `X5`, the arguments as they were and every counter at zero.
-/
module

public import proofs.«01_k».proof.Proof.Ideal.Host

@[expose] public section

noncomputable section

namespace Cert.Proof.Ideal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (seq seqK after held launchContents wp_seq wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The contents after each step -/

/-- A TensorCore reference as its device's buffer. -/
abbrev dr (r : Ref sig .tc) : DevRef τ sig := Proc.devRef .tc r

/-- At the launch, and after the host's first operations. -/
abbrev X0 (d : Dev nD) : Valuation τ sig (Elt F) := launchContents m d
def X1 (d : Dev nD) : Valuation τ sig (Elt F) := after pre (X0 m d)

/-- What the SparseCore call needs: every number in its table names a word of an array. -/
def Ok : Prop := ∀ (d : Dev nD) (j : S16x22272.Idx), ((X1 m d (dr main_v7) : S16x22272.Idx → BitVec 32) j).toNat < 589824

variable (h : Ok m)

/-- The SparseCore call's operands. -/
def opd (d : Dev nD) : Operands F d where
  t := X1 m d (dr main_v16)
  p := X1 m d (dr main_v17)
  i := X1 m d (dr main_v7)
  o := X1 m d (dr main_v18)
  bound := h d

/-- After the SparseCore call, the reshape, the TensorCore call and the last reshape. -/
def X2 (d : Dev nD) : Valuation τ sig (Elt F) := Function.update (X1 m d) (dr main_v18) (opd m h d).out
def X3 (d : Dev nD) : Valuation τ sig (Elt F) := (mid (F := F)).result (X2 m h d)
abbrev V3 (c : Dev nD) (b : Ref sig .tc) : Buf (Elt F) ((c : Thread nD τ).loc b) := X3 m h c (dr b)
def X4 (d : Dev nD) : Valuation τ sig (Elt F) := Function.update (X3 m h d) (dr main_v20) (tcRes (V3 m h) d)
abbrev V4 (c : Dev nD) (b : Ref sig .tc) : Buf (Elt F) ((c : Thread nD τ).loc b) := X4 m h c (dr b)
def X5 (d : Dev nD) : Valuation τ sig (Elt F) := (fin (F := F)).result (X4 m h d)

theorem V4_out (c : Dev nD) : V4 m h c main_v20 = tcRes (V3 m h) c := Function.update_self _ _ _
theorem V4_ne (c : Dev nD) (b : Ref sig .tc) (hb : b ≠ main_v20) : V4 m h c b = V3 m h c b :=
  Function.update_of_ne (StableHlo.devRef_ne_of_ne hb) _ _

/-! ## The SparseCore call's arrays, taken out of what is held and put back -/

def call4 : Finset (DevRef τ sig) := {dr main_v7, dr main_v16, dr main_v17, dr main_v18}

theorem call4_sub : call4 ⊆ ucRefs :=
  Finset.insert_subset (mem_uc (by decide)) (Finset.insert_subset (mem_uc (by decide)) (uc2 (by decide) (by decide)))

theorem held_call4 (d : Dev nD) (W : Valuation τ sig (Elt F)) :
    (held (T d) call4 W : sProp 𝕄)
      = iprop((iLoc d ↦{fullShare} W (dr main_v7)) ∗ (tLoc d ↦{fullShare} W (dr main_v16)) ∗ (pLoc d ↦{fullShare} W (dr main_v17)) ∗ oLoc d ↦{fullShare} W (dr main_v18)) := by
  unfold held call4
  rw [SparseCore.bigSep_insert' (by decide), SparseCore.bigSep_insert' (by decide), SparseCore.bigSep_insert' (by decide), bigSep_singleton]

theorem held_take (d : Dev nD) : (held (T d) ucRefs (X1 m d) : sProp 𝕄)
    = iprop(callRes (opd m h) d (opd m h d).o ∗ held (T d) (ucRefs \ call4) (X1 m d)) := by
  rw [StableHlo.held_sub_split _ call4_sub, held_call4]; rfl

theorem X2_out (d : Dev nD) : X2 m h d (dr main_v18) = (opd m h d).out := Function.update_self _ _ _
theorem X2_ne (d : Dev nD) {b : DevRef τ sig} (hb : b ≠ dr main_v18) : X2 m h d b = X1 m d b := Function.update_of_ne hb _ _

theorem held_put (d : Dev nD) : (held (T d) ucRefs (X2 m h d) : sProp 𝕄)
    = iprop(callRes (opd m h) d (opd m h d).out ∗ held (T d) (ucRefs \ call4) (X1 m d)) := by
  rw [StableHlo.held_sub_split _ call4_sub, held_call4, X2_out, X2_ne m h d (by decide), X2_ne m h d (by decide), X2_ne m h d (by decide)]
  rw [StableHlo.held_congr (T d) (V := X2 m h d) (V' := X1 m d) fun b hb => X2_ne m h d fun e => by
    subst e; exact (Finset.mem_sdiff.1 hb).2 (by decide)]
  rfl

/-! ## The launch's own state -/

abbrev adm : (p : Fin 1) → (pcfgs (F := F) p).Adm := fun p => (cfgs p).toPCfg_adm

/-- What the launch hands the TensorCore for its pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (opd m h)).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb (embR : Emb (UP × Counters) 𝕄) (initOf (Pipeline.cells (nD := nD) (τ := τ) cfgs cellOf_inj) (Pipeline.launchToks (nD := nD) (τ := τ) cfgs cellOf_inj)) (1 : Counters)) $$ HR
  icases H with ⟨HP, -⟩
  ihave HP := (Entails.of_eq (show (BI.own (((Emb.inl : Emb UP (UP × Counters)).trans embR) (initOf (Pipeline.cells (nD := nD) (τ := τ) cfgs cellOf_inj) (Pipeline.launchToks (nD := nD) (τ := τ) cfgs cellOf_inj))) : sProp 𝕄)
    = BI.own ((EP : Emb UP 𝕄) (initOf (Pipeline.cells (nD := nD) (τ := τ) cfgs cellOf_inj) (Pipeline.launchToks (nD := nD) (τ := τ) cfgs cellOf_inj))) from rfl)) $$ HP
  imod (Pipeline.fund_ghost (nD := nD) (τ := τ) cfgs (EP : Emb UP 𝕄) cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P (F := F) (opd m h)).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## @main on the TensorCore -/

/-- The rest of the core's state after the SparseCore call, beside what it owes. -/
def stRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))

theorem tcSt_one (d : Dev nD) : ((K (F := F)).tcSt EH d 1 : sProp 𝕄) = iprop(owesC (F := F) d ∗ stRest (F := F) d) := by
  unfold SparseCore.Cfg.tcSt
  rw [(K (F := F)).Otc_end d le_rfl]
  rfl

abbrev FIN (d : Dev nD) : sProp 𝕄 := held (T d) ucRefs (X5 m h d)

theorem launch_held (d : Dev nD) : (unscopedBufs d (fun b => m ((SparseCore.T d).loc b)) : sProp 𝕄) = held (T d) ucRefs (X0 m d) :=
  unscoped_held (F := F) d (X0 m d)

/-- The TensorCore call as the region's own program, lifted. -/
theorem call_eq : (Prog.lift (.customCall (SparseCore.inner (Pipeline.entry 0)) ()) : Prog (TpuEff nD τ sig (Elt F) (ΛC (F := F)) .tc) PUnit)
    = SparseCore.liftProg (.op (.customCall (Pipeline.entry (0 : Fin 1)) ()) fun _ => .ret (⟨⟩ : PUnit)) := rfl

theorem hmain (κ : GSem nD τ sig → ℕ) (d : Dev nD) :
    iprop((K (F := F)).ctx EH (P (opd m h)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [launch_held, main_eq]
  unfold stepped
  iintro ⟨#Hctx, Hst, ⟨Hb, Hheld, Hts, -⟩, ⟨Hcg, Htk⟩⟩
  iapply (wp_seq 𝒱 none Set.univ d ucRefs _ pre pre_sub pre_fresh (X0 m d)) $$ [Hb Hheld]
  · isplitl [Hb] <;> iassumption
  iintro ⟨Hb, Hheld⟩
  simp only [wp_bind]
  ihave Hh := (Entails.of_eq (show (held d.tc ucRefs (after pre (X0 m d)) : sProp 𝕄) = _ from held_take m h d)) $$ Hheld
  icases Hh with ⟨Hcall, Hrest⟩
  iapply ((K (F := F)).wp_run (D (F := F)) 𝒱 (EH := EH) (P := P (opd m h)) κ d 0) $$ [Hst Hcall Hb Hrest Hts Hcg Htk]
  isplitr; · iexact Hctx
  isplitl [Hst]; · iexact Hst
  isplitl [Hcall]
  · rw [st_eq]; iexact Hcall
  iintro ⟨Hst, Hdn⟩
  ihave Hdn' := (Entails.of_eq (dn_eq (opd m h) d)) $$ Hdn
  -- the camera matrices
  iapply (wp_hlo_within 𝒱 (SparseCore.T d) none Set.univ (op := mid) (S := ucRefs) mid_sub (V := X2 m h d)) $$ [Hb Hdn' Hrest]
  · isplitl [Hb]; · iexact Hb
    rw [held_put m h d]
    isplitl [Hdn'] <;> iassumption
  iintro ⟨Hb, Hheld⟩
  rw [wp_ret]; imodintro
  -- the TensorCore call
  ihave Hst' := (Entails.of_eq (show ((K (F := F)).tcSt EH d ((0 : Fin 1).val + 1) : sProp 𝕄) = _ from tcSt_one (F := F) d)) $$ Hst
  icases Hst' with ⟨Howes, Hst⟩
  ihave #Hlev := ((K (F := F)).ctx_levAts (EH := EH) (P := P (opd m h)) κ) $$ Hctx
  rw [call_eq]
  iapply ((K (F := F)).wp_liftProg (D (F := F)) 𝒱 (SparseCore.T d) Set.univ none
    (.op (.customCall (Pipeline.entry (0 : Fin 1)) ()) fun _ => .ret ⟨⟩) _)
  iapply (Pipeline.RegionSeg.wp (pcfgs (F := F)) adm (pdats (V3 m h) adm) (default : HIx 1) cellOf_inj EP defs₀ 𝒱₀ (K (F := F)).L (K (F := F)).lev
    (reg (V3 m h) adm (V4 m h) (V4_out m h) (V4_ne m h)) d none (fun u hu => nomatch hu) (fun _ => .ret ⟨⟩) _)
  isplitr [Hb Hheld Howes Hcg Htk]
  · iintro ⟨Hb, Hpost⟩
    rw [wp_ret]; imodintro
    ihave Hpost := (Entails.of_eq (show (reg (V3 m h) adm (V4 m h) (V4_out m h) (V4_ne m h)).post d = iprop(unscopedBufs d (V4 m h d) ∗ owesC (F := F) d) from rfl)) $$ Hpost
    icases Hpost with ⟨Hheld, Howes⟩
    ihave Hheld := (Entails.of_eq (show (unscopedBufs d (V4 m h d) : sProp 𝕄) = held (T d) ucRefs (X4 m h d) from unscoped_held (F := F) d (X4 m h d))) $$ Hheld
    iapply (wp_hlo_within 𝒱 (SparseCore.T d) none Set.univ (op := fin) (S := ucRefs) fin_sub (V := X4 m h d)) $$ [Hb Hheld]
    · isplitl [Hb] <;> iassumption
    iintro ⟨Hb, Hheld⟩
    rw [wp_ret]; imodintro
    rw [tcSt_one]
    isplitl [Howes Hst]; · isplitl [Howes] <;> iassumption
    isplitl [Hheld]; · iexact Hheld
    isplitl [Hb] <;> iassumption
  isplitl [Hb]; · iexact Hb
  isplitl [Hheld Howes]
  · iapply (Entails.of_eq (show iprop(unscopedBufs d (V3 m h d) ∗ owesC (F := F) d) = (reg (V3 m h) adm (V4 m h) (V4_out m h) (V4_ne m h)).pre d from rfl))
    isplitl [Hheld]
    · iapply (Entails.of_eq (show (held (T d) ucRefs ((mid (F := F)).result (X2 m h d)) : sProp 𝕄) = unscopedBufs d (V3 m h d) from (unscoped_held (F := F) d (X3 m h d)).symm)) $$ Hheld
    · iexact Howes
  isplitr; · iexact Hlev
  isplitl [Hcg] <;> iassumption

/-! ## The final state -/

/-- What the claims read of device `d`'s final memory. -/
def fq (d : Dev nD) (s' : Phys nD τ sig (Elt F)) : Prop := ∀ r : Ref sig .tc, r.isScoped = false → s'.mem.mem (d, dr r) = X5 m h d (dr r)

theorem hfin (d : Dev nD) (s' : Phys nD τ sig (Elt F)) : iprop(FIN m h d ∗ SI s') ⊢ (⌜fq m h d s'⌝ : sProp 𝕄) := by
  have key : ∀ r : Ref sig .tc, r.isScoped = false → iprop(FIN m h d ∗ SI s') ⊢ (⌜s'.mem.mem (d, dr r) = X5 m h d (dr r)⌝ : sProp 𝕄) := by
    intro r hr
    unfold FIN
    rw [StableHlo.held_sub_split _ (uc1 hr)]
    unfold held
    rw [bigSep_singleton]
    iintro ⟨⟨Hx, -⟩, HSI⟩
    ihave H := (SI_pointsTo_agree (st := s') (ℓ := (d, dr r)) (I := Finset.univ) (q := fullShare) (f := X5 m h d (dr r))) $$ [HSI Hx]
    · isplitl [HSI] <;> iassumption
    icases H with %hx
    ipureintro; exact funext fun i => hx i (Finset.mem_univ i)
  refine (Laws.forall_intro fun r => ?_).trans Laws.pure_forall.2
  by_cases hr : r.isScoped = false
  · exact (key r hr).trans (Laws.pure_mono fun e _ => e)
  · exact Laws.pure_intro fun e => absurd e hr

/-! ## The program's run -/

def QC : PUnit × MemSt nD τ sig (Elt F) → Prop := fun r =>
  (∀ (c : Dev nD) (b : Ref sig .tc), b.isScoped = false → r.2.mem (c, dr b) = X5 m h c (dr b)) ∧ r.2.sem = fun _ => 0

theorem run_main : θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P (opd m h)) (A := ∅) facts v₀
    (fun q hq => match q with | 0 => nomatch hq)
    (fun q _ => match q with | 0 => task (opd m h))
    (fun q _ => match q with | 0 => SparseCore.Cfg.VecSplit.of_plain (split (opd m h)))
    m ρ main (fun d => G (F := F) d) (FIN m h) (u₀ (F := F)) (sep_elim_left.trans (hu₀ m h)) (hmain m ρ h) (fq m h) (hfin m h) (QC m h) (fun _ h hz => ⟨h, hz⟩)

end Cert.Proof.Ideal

end
-- ==== Proof.Ideal.Words.lean ====
/-
  What the host's first operations leave: the table of pixels padded with zeros, each entry moved by 147456 times its
  sample (`main_v7`), its row and column as one word (`main_v15`), and the two maps as vectors (`main_v16`, `main_v17`).
  The precondition puts every pixel below 147456, so that every moved entry is a word of a map.
-/
module

public import proofs.«01_k».proof.Proof.Ideal.Launch
public import proofs.«01_k».proof.Proof.Gen.Pre_pixels
public import Idealize.ShloMosaic.Lib.ReduceAll
public import Idealize.ShloMosaic.Lib.KernelVsHost
public import Idealize.ShloMosaic.Lib.Pointwise

@[expose] public section

noncomputable section

namespace Cert.Proof.Ideal

open Cert.KernelIdeal Cert.KernelIdeal.Gen

open Idealize.ShloMosaic
open Idealize.ShloMosaic.TcCoe Idealize.ShloMosaic.Tactic
open Idealize.ShloMosaic.StableHlo (seq seqK after held launchContents)
open Idealize.SL.Sem

variable {F : FTy → Type} [FloatOps F] [∀ e, Nonempty (Elt F e)]

variable (m : (ℓ : Loc nD τ sig) → Buf (Elt F) ℓ)

/-- The padded table. -/
def padded (a : S3x4x29491.Idx → BitVec 32) : S3x4x29696.Idx → BitVec 32 :=
  pad S3x4x29696 ![0, 0, 0] ![0, 0, 205] ![0, 0, 0] a (constantI S_ 32 0#32) pads_S3x4x29491_S3x4x29696_000_000_02050 h_S_

/-- Where each sample's map starts. -/
def starts : S3x4x29696.Idx → BitVec 32 :=
  broadcastInDim S3x4x29696 ![0, 1, 2] bcast_S1x4x1_S3x4x29696_0_1_2 (broadcastInDim S1x4x1 ![1] bcast_S4_S1x4x1_1
    (muli (iotaInDim S4 32 0) (broadcastInDim S4 ![] bcast_S_S4 (constantI S_ 32 147456#32))))

theorem X1_v7 (d : Dev nD) : X1 m d (dr main_v7) =
    shapeCast S16x22272 (addi (padded (m ((d.tc : Thread nD τ).loc main_arg4))) starts) shapeCasts_S3x4x29696_S16x22272 := by
  unfold X1 pre
  after_results
  rfl

theorem X1_v15 (d : Dev nD) : X1 m d (dr main_v15) =
    sitofp .f32 (addi (muli (Host.divsi (padded (m ((d.tc : Thread nD τ).loc main_arg4))) (broadcastInDim S3x4x29696 ![] bcast_S_S3x4x29696 (constantI S_ 32 384#32))) (broadcastInDim S3x4x29696 ![] bcast_S_S3x4x29696 (constantI S_ 32 512#32)))
      (Host.remsi (padded (m ((d.tc : Thread nD τ).loc main_arg4))) (broadcastInDim S3x4x29696 ![] bcast_S_S3x4x29696 (constantI S_ 32 384#32)))) := by
  unfold X1 pre
  after_results
  rfl

theorem X1_v16 (d : Dev nD) : X1 m d (dr main_v16) = shapeCast S589824 (m ((d.tc : Thread nD τ).loc main_arg1)) shapeCasts_S4x1x384x384_S589824 := by
  unfold X1 pre
  after_results
  rfl

theorem X1_v17 (d : Dev nD) : X1 m d (dr main_v17) = shapeCast S589824 (m ((d.tc : Thread nD τ).loc main_arg0)) shapeCasts_S4x1x384x384_S589824 := by
  unfold X1 pre
  after_results
  rfl

theorem X1_arg0 (d : Dev nD) : X1 m d (dr main_arg0) = m ((d.tc : Thread nD τ).loc main_arg0) := by
  unfold X1 pre
  after_results
theorem X1_arg1 (d : Dev nD) : X1 m d (dr main_arg1) = m ((d.tc : Thread nD τ).loc main_arg1) := by
  unfold X1 pre
  after_results
theorem X1_arg2 (d : Dev nD) : X1 m d (dr main_arg2) = m ((d.tc : Thread nD τ).loc main_arg2) := by
  unfold X1 pre
  after_results
theorem X1_arg3 (d : Dev nD) : X1 m d (dr main_arg3) = m ((d.tc : Thread nD τ).loc main_arg3) := by
  unfold X1 pre
  after_results
theorem X1_arg4 (d : Dev nD) : X1 m d (dr main_arg4) = m ((d.tc : Thread nD τ).loc main_arg4) := by
  unfold X1 pre
  after_results

/-! ## The precondition, read -/

/-- Every pixel named is one of an image's. -/
def InRange (a : S3x4x29491.Idx → BitVec 32) : Prop := ∀ j, (a j).toNat < 147456

theorem word_bound (x : BitVec 32) (h : IntOp.andi (IntOp.cmpi .sge x 0#32) (IntOp.cmpi .slt x 147456#32) = 1#1) : x.toNat < 147456 := by
  have h1 : IntOp.cmpi .sge x 0#32 = 1#1 := by revert h; generalize IntOp.cmpi .sge x 0#32 = p; generalize IntOp.cmpi .slt x 147456#32 = q; revert p q; decide
  have h2 : IntOp.cmpi .slt x 147456#32 = 1#1 := by revert h; generalize IntOp.cmpi .sge x 0#32 = p; generalize IntOp.cmpi .slt x 147456#32 = q; revert p q; decide
  have h1' := IntOp.cmpi_sge.1 h1
  have h2' := IntOp.cmpi_slt.1 h2
  simp only [BitVec.toInt_eq_toNat_cond, BitVec.toNat_ofNat] at h1' h2'
  have := x.isLt
  split at h1' <;> omega

instance : Subsingleton Cert.Pre_pixels.S_.Idx := ⟨fun a b => funext fun i => i.elim0⟩

theorem inRange_of_reduce (a : S3x4x29491.Idx → BitVec 32)
    {h : Cert.Pre_pixels.S3x4x29491.ReducesTo [0, 1, 2] Cert.Pre_pixels.S_} {hS : 0 < Cert.Pre_pixels.S_.numel} {hb}
    (j : Cert.Pre_pixels.S_.Idx)
    (e : Host.reduce IntOp.andi (andi (cmpi .sge a (broadcastInDim Cert.Pre_pixels.S3x4x29491 ![] hb (constantI Cert.Pre_pixels.S_ 32 0#32)))
      (cmpi .slt a (broadcastInDim Cert.Pre_pixels.S3x4x29491 ![] hb (constantI Cert.Pre_pixels.S_ 32 147456#32))))
      (constantI Cert.Pre_pixels.S_ 1 1#1) h hS j = 1#1) : InRange a := fun i =>
  word_bound _ (Host.reduce_andi_all _ _ _ _ j e i)

/-! ## Every entry names a word of a map -/

theorem padded_lt (a : S3x4x29491.Idx → BitVec 32) (h : InRange a) (j : S3x4x29696.Idx) : (padded a j).toNat < 147456 := by
  unfold padded
  rw [pad_apply]
  split
  · exact h _
  · show (0#32 : BitVec 32).toNat < _
    decide

theorem starts_eq (j : S3x4x29696.Idx) : (starts j).toNat = (j 1).val * 147456 := by
  have h1 : (j 1).val < 4 := (j 1).isLt
  have : starts j = BitVec.ofNat 32 (j 1).val * 147456#32 := rfl
  rw [this]
  simp only [BitVec.toNat_mul, BitVec.toNat_ofNat]
  omega

theorem word_eq (a : S3x4x29491.Idx → BitVec 32) (h : InRange a) (j : S3x4x29696.Idx) :
    (addi (padded a) starts j).toNat = (j 1).val * 147456 + (padded a j).toNat := by
  have h1 : (j 1).val < 4 := (j 1).isLt
  have h2 := padded_lt a h j
  show (padded a j + starts j).toNat = _
  rw [BitVec.toNat_add, starts_eq]
  omega

theorem ok_of_inRange (h : ∀ d : Dev nD, InRange (m ((d.tc : Thread nD τ).loc main_arg4))) : Ok m := fun d j => by
  rw [X1_v7]
  obtain ⟨k, hk⟩ : ∃ k, shapeCast S16x22272 (addi (padded (m ((d.tc : Thread nD τ).loc main_arg4))) starts) shapeCasts_S3x4x29696_S16x22272 j
    = addi (padded (m ((d.tc : Thread nD τ).loc main_arg4))) starts k := ⟨_, rfl⟩
  rw [hk, word_eq _ (h d)]
  have h1 : (k 1).val < 4 := (k 1).isLt
  have h2 := padded_lt _ (h d) k
  omega

/-! ## The arguments after the run -/

variable (h : Ok m)

theorem X5_of (d : Dev nD) (b : Ref sig .tc) (h1 : b ≠ main_v18) (h2 : b ≠ main_v19) (h3 : b ≠ main_v20) (h4 : b ≠ main_v21) :
    X5 m h d (dr b) = X1 m d (dr b) := by
  unfold X5 fin
  rw [StableHlo.reshape_result_ne' _ _ _ _ _ h4]
  unfold X4
  rw [Function.update_of_ne (StableHlo.devRef_ne_of_ne h3)]
  unfold X3 mid
  rw [StableHlo.reshape_result_ne' _ _ _ _ _ h2]
  unfold X2
  rw [Function.update_of_ne (StableHlo.devRef_ne_of_ne h1)]

/-- The run's frame, from the word bounds. -/
theorem frame_of (ρ : Dev nD → PrngReg) (h : Ok m) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ hq => ⟨fun c =>
    ⟨(hq.1 c main_arg0 rfl).trans ((X5_of m h c main_arg0 (by decide) (by decide) (by decide) (by decide)).trans (X1_arg0 m c)),
     (hq.1 c main_arg1 rfl).trans ((X5_of m h c main_arg1 (by decide) (by decide) (by decide) (by decide)).trans (X1_arg1 m c)),
     (hq.1 c main_arg2 rfl).trans ((X5_of m h c main_arg2 (by decide) (by decide) (by decide) (by decide)).trans (X1_arg2 m c)),
     (hq.1 c main_arg3 rfl).trans ((X5_of m h c main_arg3 (by decide) (by decide) (by decide) (by decide)).trans (X1_arg3 m c)),
     (hq.1 c main_arg4 rfl).trans ((X5_of m h c main_arg4 (by decide) (by decide) (by decide) (by decide)).trans (X1_arg4 m c))⟩, hq.2⟩)
    (run_main m ρ h)

end Cert.Proof.Ideal

end
-- ==== Proof.RefFrame.lean ====
/-
  The reference is host operations alone and declares no counter: its run leaves the arguments as they were, and every
  counter at zero since there is none.
-/
module

public import proofs.«01_k».proof.Defs
public import proofs.«01_k».proof.Proof.Gen.ReferenceIdeal
public import proofs.«01_k».proof.Proof.Gen.ReferenceIdeal.Run

@[expose] public section

noncomputable section

namespace Cert.Proof.Ref

open Idealize.ShloMosaic Idealize.SL.Sem Cert.ReferenceIdeal

/-- The reference declares no counter. -/
theorem noSem (x : GSem nD τ sig) : False := by
  rcases x with ⟨_, x⟩
  cases x with
  | reg s => exact (s.elim0 : False)
  | dma s => exact (s.elim0 : False)

/-- The reference's frame, whatever it is run under. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2, funext fun x => (noSem x).elim⟩) (Cert.ReferenceIdeal.Value.run m ρ)

end Cert.Proof.Ref

end
-- ==== Proof.Frames.lean ====
/-
  The frames: under the precondition every number of the kernel's table names a word of a map, so the run ends with the
  arguments as they were and every counter at zero.
-/
module

public import proofs.«01_k».proof.Defs
public import proofs.«01_k».proof.Proof.Ideal.Words
public import proofs.«01_k».proof.Proof.Bits.Words
public import proofs.«01_k».proof.Proof.RefFrame

@[expose] public section

noncomputable section

namespace Cert.Proof

open Idealize.ShloMosaic Idealize.SL.Sem

/-- The precondition's pixels are in range. -/
theorem Bits.inRange (m : (ℓ : Loc Cert.Kernel.nD Cert.Kernel.τ Cert.Kernel.sig) → Buf (Elt Bits) ℓ) (h : Cert.Pre_Kernel m) (d : Dev Cert.Kernel.nD) :
    Bits.InRange (m ((d.tc : Thread Cert.Kernel.nD Cert.Kernel.τ).loc Cert.Kernel.main_arg4)) := by
  have e := congrFun (h d) fun i => i.elim0
  unfold Cert.Pre_pixels.fn at e
  exact Bits.inRange_of_reduce _ _ e

theorem Ideal.inRange (m : (ℓ : Loc Cert.KernelIdeal.nD Cert.KernelIdeal.τ Cert.KernelIdeal.sig) → Buf (Elt Ideal) ℓ) (h : Cert.Pre_KernelIdeal m) (d : Dev Cert.KernelIdeal.nD) :
    Ideal.InRange (m ((d.tc : Thread Cert.KernelIdeal.nD Cert.KernelIdeal.τ).loc Cert.KernelIdeal.main_arg4)) := by
  have e := congrFun (h d) fun i => i.elim0
  unfold Cert.Pre_pixels.fn at e
  exact Ideal.inRange_of_reduce _ _ e

theorem kernel_frame : Cert.quiescent_Kernel := fun m g h => Bits.frame_of m g (Bits.ok_of_inRange m (Bits.inRange m h))

theorem ideal_frame : Cert.quiescent_KernelIdeal := fun m g h => Ideal.frame_of m g (Ideal.ok_of_inRange m (Ideal.inRange m h))

theorem reference_frame : Cert.quiescent_ReferenceIdeal := fun m g _ => Ref.frame m g

end Cert.Proof

end
-- ==== Proof.Value.Scalar.lean ====
/-
  One group's mathematics over the extended reals, as the kernel writes it and as the reference writes it. A group is
  three points; `keepK` and `keepR` say whether it counts, `term` is one coordinate of the difference of the two unit
  normals. The kernel compares the size of an inner product with a multiple of a positive denominator where the reference
  divides and compares on both sides (`hit_eq`); it adds the diagonal and twice the rest where the reference adds all nine
  (`keep_eq`); it multiplies by a reciprocal where the reference divides (`termK_eq`).
-/
module

public import Idealize.ShloMosaic.PureOps.Ideal
public import Idealize.ShloMosaic.Lib.IdealHost
public import Idealize.ShloMosaic.Lib.Pointwise

@[expose] public section

noncomputable section

namespace Cert.Proof.Value

open Idealize.ShloMosaic

/-! ## The literals -/

abbrev eps : EReal := Ideal.ofBits .f32 0x358637BD#32
abbrev near : EReal := Ideal.ofBits .f32 0x3BA3D70A#32
abbrev deep : EReal := Ideal.ofBits .f32 0x3727C5AC#32
abbrev dc : EReal := Ideal.ofBits .f32 0x3F5DF3B6#32
abbrev ndc : EReal := Ideal.ofBits .f32 0xBF5DF3B6#32
abbrev tiny : EReal := Ideal.ofBits .f32 0x38D1B717#32
abbrev one : EReal := Ideal.ofBits .f32 0x3F800000#32
abbrev nil : EReal := Ideal.ofBits .f32 0x00000000#32

theorem eps_pos : ∃ r : ℝ, 0 < r ∧ eps = (r : EReal) := by
  refine ⟨2 ^ (-43 : Int) * 8796093, by positivity, ?_⟩
  simp [eps, Ideal.ofBits, Ideal.ieee, -EReal.coe_mul]; norm_num

theorem dc_pos : ∃ r : ℝ, 0 < r ∧ dc = (r : EReal) ∧ ndc = ((-r : ℝ) : EReal) := by
  refine ⟨2 ^ (-24 : Int) * 14545846, by positivity, ?_, ?_⟩ <;>
    simp [dc, ndc, Ideal.ofBits, Ideal.ieee, -EReal.coe_mul, -EReal.coe_neg] <;> norm_num

theorem one_eq : one = 1 := Ideal.ofBits_one_f32
theorem nil_eq : nil = 0 := Ideal.ofBits_zero_f32

/-! ## Points -/

structure Pt where
  x : EReal
  y : EReal
  z : EReal

def Pt.sub (a b : Pt) : Pt := ⟨a.x - b.x, a.y - b.y, a.z - b.z⟩

def dot (a b : Pt) : EReal := a.x * b.x + a.y * b.y + a.z * b.z

def nrm (a : Pt) : EReal := Ideal.sqrt (dot a a)

def cross (a b : Pt) : Pt := ⟨a.y * b.z - a.z * b.y, a.z * b.x - a.x * b.z, a.x * b.y - a.y * b.x⟩

theorem mul_self_nonneg' (x : EReal) : 0 ≤ x * x := by
  induction x using EReal.rec with
  | bot => simp
  | top => simp
  | coe r => rw [← EReal.coe_mul]; exact EReal.coe_nonneg.mpr (mul_self_nonneg r)

theorem dot_self_nonneg (a : Pt) : 0 ≤ dot a a :=
  add_nonneg (add_nonneg (mul_self_nonneg' _) (mul_self_nonneg' _)) (mul_self_nonneg' _)

theorem sqrt_nonneg {x : EReal} (h : 0 ≤ x) : 0 ≤ Ideal.sqrt x := by
  induction x using EReal.rec with
  | bot => simp at h
  | top => exact le_top (a := (0 : EReal))
  | coe r =>
    have hr : ¬ r < 0 := not_lt.mpr (EReal.coe_nonneg.mp h)
    have e : Ideal.sqrt (r : EReal) = if r < 0 then ⊥ else (Real.sqrt r : EReal) := rfl
    rw [e, if_neg hr]
    exact EReal.coe_nonneg.mpr (Real.sqrt_nonneg r)

theorem nrm_nonneg (a : Pt) : 0 ≤ nrm a := sqrt_nonneg (dot_self_nonneg a)

theorem dot_comm (a b : Pt) : dot a b = dot b a := by
  simp only [dot, mul_comm]

/-! ## The comparisons of directions -/

/-- A bit as a word. -/
def ext (b : BitVec 1) : BitVec 32 := b.setWidth 32

def den (a b : Pt) : EReal := nrm a * nrm b + eps

theorem den_pos (a b : Pt) : 0 < den a b := by
  obtain ⟨r, h0, hr⟩ := eps_pos
  refine lt_of_lt_of_le (b := eps) (by rw [hr]; exact EReal.coe_pos.mpr h0) ?_
  exact le_add_of_nonneg_left (mul_nonneg (nrm_nonneg a) (nrm_nonneg b))

theorem den_comm (a b : Pt) : den a b = den b a := by
  simp only [den, mul_comm]

def hitR (a b : Pt) : BitVec 32 :=
  ext (Ideal.cmp .ogt (Ideal.div (dot a b) (den a b)) dc) + ext (Ideal.cmp .olt (Ideal.div (dot a b) (den a b)) ndc)

def hitK (a b : Pt) : BitVec 32 := ext (Ideal.cmp .ogt (max (dot a b) (-(dot a b))) (dc * den a b))

/-- The two comparisons over a positive denominator. -/
theorem ext_cmp (E D : EReal) (hD : 0 < D) :
    ext (Ideal.cmp .ogt (Ideal.div E D) dc) + ext (Ideal.cmp .olt (Ideal.div E D) ndc)
      = ext (Ideal.cmp .ogt (max E (-E)) (dc * D)) := by
  obtain ⟨δ, h0, hp, hn⟩ := dc_pos
  rw [hp, hn]
  have key : ∀ p q r : Prop, [Decidable p] → [Decidable q] → [Decidable r] → (r ↔ p ∨ q) → ¬ (p ∧ q) →
      ext (BitVec.ofBool (decide p)) + ext (BitVec.ofBool (decide q)) = ext (BitVec.ofBool (decide r)) := by
    intro p q r _ _ _ h h'
    by_cases hp : p <;> by_cases hq : q <;> simp_all [ext]
  refine key _ _ _ ?_ ?_
  · have hD' : D ≠ 0 := hD.ne'
    unfold Ideal.div; rw [if_neg hD']
    induction D using EReal.rec with
    | bot => simp at hD
    | top =>
      rw [EReal.inv_top, mul_zero, EReal.coe_mul_top_of_pos h0]
      have h1 : ¬ ((δ : EReal) < 0) := not_lt.mpr (EReal.coe_nonneg.mpr h0.le)
      have h2 : ¬ ((0 : EReal) < ((-δ : ℝ) : EReal)) := by
        rw [EReal.coe_pos]; linarith
      simp only [not_top_lt, false_iff, not_or]
      exact ⟨h1, h2⟩
    | coe d =>
      have d0 : 0 < d := EReal.coe_pos.mp hD
      rw [← EReal.coe_inv, ← EReal.coe_mul]
      induction E using EReal.rec with
      | bot =>
        rw [EReal.bot_mul_coe_of_pos (inv_pos.mpr d0), EReal.neg_bot, max_eq_right bot_le]
        exact iff_of_true (EReal.coe_lt_top _) (.inr (EReal.bot_lt_coe _))
      | top =>
        rw [EReal.top_mul_coe_of_pos (inv_pos.mpr d0), max_eq_left le_top]
        exact iff_of_true (EReal.coe_lt_top _) (.inl (EReal.coe_lt_top _))
      | coe e =>
        rw [← EReal.coe_mul, ← EReal.coe_neg, lt_max_iff, EReal.coe_lt_coe_iff, EReal.coe_lt_coe_iff,
          EReal.coe_lt_coe_iff, EReal.coe_lt_coe_iff, ← div_eq_mul_inv, lt_div_iff₀ d0, div_lt_iff₀ d0]
        constructor
        · rintro (h | h)
          · exact .inl h
          · right; linarith
        · rintro (h | h)
          · exact .inl h
          · right; linarith
  · rintro ⟨h1, h2⟩
    have h3 := h1.trans h2
    rw [EReal.coe_lt_coe_iff] at h3
    linarith

theorem hit_eq (a b : Pt) : hitR a b = hitK a b := ext_cmp _ _ (den_pos a b)

theorem hitR_comm (a b : Pt) : hitR a b = hitR b a := by
  unfold hitR; rw [dot_comm, den_comm]

/-! ## Which groups count -/

def sgt (x y : BitVec 32) : BitVec 1 := IntOp.cmpi .sgt x y

def cosR (d0 d1 d2 : Pt) : BitVec 1 :=
  sgt (0#32 + hitR d0 d0 + hitR d0 d1 + hitR d0 d2 + hitR d1 d0 + hitR d1 d1 + hitR d1 d2 + hitR d2 d0 + hitR d2 d1
    + hitR d2 d2) 3#32

def cosK (d0 d1 d2 : Pt) : BitVec 1 :=
  sgt (hitK d0 d0 + hitK d1 d1 + hitK d2 d2 + 2#32 * (hitK d0 d1 + hitK d0 d2 + hitK d1 d2)) 3#32

theorem cos_eq (d0 d1 d2 : Pt) : cosR d0 d1 d2 = cosK d0 d1 d2 := by
  unfold cosR cosK
  rw [hitR_comm d1 d0, hitR_comm d2 d0, hitR_comm d2 d1]
  simp only [hit_eq]
  congr 1
  generalize hitK d0 d0 = a, hitK d0 d1 = b, hitK d0 d2 = c, hitK d1 d1 = d, hitK d1 d2 = e, hitK d2 d2 = f
  rw [show (2#32 : BitVec 32) = 1#32 + 1#32 from rfl, BitVec.add_mul, BitVec.one_mul]
  ac_nf

def small (x : EReal) : BitVec 1 := Ideal.cmp .olt (max x (-x)) near

def anyR (a b c : EReal) : BitVec 1 := sgt (ext (small a) + ext (small b) + ext (small c)) 0#32
def anyK (a b c : EReal) : BitVec 1 := (small a ||| small b) ||| small c

theorem any_eq (a b c : EReal) : anyR a b c = anyK a b c := by
  unfold anyR anyK
  generalize small a = a, small b = b, small c = c
  revert a b c; decide

def far (z : EReal) : BitVec 1 := Ideal.cmp .ogt z deep

def padR (a b c : EReal) : BitVec 1 := IntOp.cmpi .eq (ext (far a) + ext (far b) + ext (far c)) 3#32
def padK (a b c : EReal) : BitVec 1 := (far a &&& far b) &&& far c

theorem pad_eq (a b c : EReal) : padR a b c = padK a b c := by
  unfold padR padK
  generalize far a = a, far b = b, far c = c
  revert a b c; decide

def keepR (g0 g1 g2 : Pt) : BitVec 1 :=
  let d0 := g1.sub g0
  let d1 := g2.sub g0
  let d2 := g2.sub g1
  padR g0.z g1.z g2.z &&& ~~~ (((anyR d0.x d1.x d2.x &&& anyR d0.y d1.y d2.y) &&& anyR d0.z d1.z d2.z) ||| cosR d0 d1 d2)

def keepK (g0 g1 g2 : Pt) : BitVec 1 :=
  let d0 := g1.sub g0
  let d1 := g2.sub g0
  let d2 := g2.sub g1
  padK g0.z g1.z g2.z &&&
    ((((anyK d0.x d1.x d2.x &&& anyK d0.y d1.y d2.y) &&& anyK d0.z d1.z d2.z) ||| cosK d0 d1 d2) ^^^ 1#1)

theorem keep_eq (g0 g1 g2 : Pt) : keepR g0 g1 g2 = keepK g0 g1 g2 := by
  unfold keepR keepK
  simp only [any_eq, pad_eq, cos_eq]
  congr 1
  generalize ((anyK _ _ _ &&& _) &&& _) ||| _ = b
  revert b; decide

/-! ## The unit normals -/

def asR (b : BitVec 1) : EReal := ((b.toNat : ℝ) : EReal)
def asK (b : BitVec 1) : EReal := (((ext b).toInt : ℝ) : EReal)

theorem as_eq (b : BitVec 1) : asK b = asR b := by
  have : (ext b).toInt = (b.toNat : Int) := by revert b; decide
  unfold asK asR; rw [this]; norm_cast

theorem asR_cases (b : BitVec 1) : asR b = 0 ∨ asR b = 1 := by
  have : b = 0#1 ∨ b = 1#1 := by revert b; decide
  rcases this with h | h <;> subst h
  · left; simp [asR]
  · right; simp [asR]

def lenR (a : Pt) : EReal := nrm a + asR (Ideal.cmp .oeq (nrm a) nil) * eps
def lenK (a : Pt) : EReal := nrm a + asK (Ideal.cmp .oeq (nrm a) nil) * eps

theorem lenR_ne (a : Pt) : lenR a ≠ 0 := by
  obtain ⟨r, h0, hr⟩ := eps_pos
  unfold lenR Ideal.cmp
  by_cases h : nrm a = nil
  · simp only [h, decide_true, nil_eq, zero_add]
    simp [asR, hr, h0.ne']
  · simp only [h, decide_false]
    rw [nil_eq] at h
    simpa [asR] using h

def unitR (a : Pt) : Pt := ⟨Ideal.div a.x (lenR a), Ideal.div a.y (lenR a), Ideal.div a.z (lenR a)⟩
def unitK (a : Pt) : Pt := ⟨a.x * Ideal.div one (lenK a), a.y * Ideal.div one (lenK a), a.z * Ideal.div one (lenK a)⟩

theorem unit_eq (a : Pt) : unitK a = unitR a := by
  unfold unitK unitR
  rw [show lenK a = lenR a by unfold lenK lenR; rw [as_eq], one_eq]
  simp only [Ideal.mul_one_div (lenR_ne a)]

/-- The predicted points with a coordinate replaced where a depth is nought. -/
def fix (p0 p1 p2 p : Pt) : Pt :=
  ⟨if Ideal.cmp .oeq p0.z nil = 1 then tiny else p.x, if Ideal.cmp .oeq p1.z nil = 1 then tiny else p.y,
    if Ideal.cmp .oeq p2.z nil = 1 then tiny else p.z⟩

def gone (x y : EReal) : EReal := max (x - y) (-(x - y))

def faceOf (p0 p1 p2 : Pt) : Pt := cross (p1.sub p0) (p2.sub p0)

def predOf (p0 p1 p2 : Pt) : Pt := faceOf (fix p0 p1 p2 p0) (fix p0 p1 p2 p1) (fix p0 p1 p2 p2)

def wR (g0 g1 g2 : Pt) : EReal := asR (keepR g0 g1 g2)

def lossK (g0 g1 g2 p0 p1 p2 : Pt) : EReal :=
  let a := unitK (faceOf g0 g1 g2)
  let b := unitK (predOf p0 p1 p2)
  gone a.x b.x + gone a.y b.y + gone a.z b.z

def lossR (g0 g1 g2 p0 p1 p2 : Pt) : EReal :=
  let a := unitR (faceOf g0 g1 g2)
  let b := unitR (predOf p0 p1 p2)
  gone a.x b.x + gone a.y b.y + gone a.z b.z

theorem loss_eq (g0 g1 g2 p0 p1 p2 : Pt) : lossK g0 g1 g2 p0 p1 p2 = lossR g0 g1 g2 p0 p1 p2 := by
  unfold lossK lossR; simp only [unit_eq]

theorem add_mul_bit (x y w : EReal) (h : w = 0 ∨ w = 1) : (x + y) * w = x * w + y * w := by
  rcases h with h | h <;> subst h <;> simp

/-! ## A point from a pixel -/

def ptK (r c u v f z : EReal) : Pt := ⟨(c - u) * Ideal.div one f * z, (r - v) * Ideal.div one f * z, z⟩
def ptR (r c u v f z : EReal) : Pt := ⟨Ideal.div ((c - u) * z) f, Ideal.div ((r - v) * z) f, z⟩

theorem pt_eq (r c u v f z : EReal) (hf : f ≠ 0) : ptK r c u v f z = ptR r c u v f z := by
  unfold ptK ptR
  rw [mul_right_comm, mul_right_comm (r - v), one_eq]
  simp only [Ideal.mul_one_div hf]

/-- A row and a column packed as `512 · row + column` come apart again. -/
theorem unpack (p r c : ℕ) (hc : c < 512) (hp : p = 512 * r + c) :
    Ideal.liftRound Int.floor ((p : ℝ) * Ideal.ofBits .f32 0x3B000000#32) = ((r : ℝ) : EReal) ∧
      ((p : ℝ) : EReal) - ((r : ℝ) : EReal) * Ideal.ofBits .f32 0x44000000#32 = ((c : ℝ) : EReal) := by
  have h1 : Ideal.ofBits .f32 0x3B000000#32 = ((1 / 512 : ℝ) : EReal) := by
    simp [Ideal.ofBits, Ideal.ieee, -EReal.coe_mul]; norm_num
  have h2 : Ideal.ofBits .f32 0x44000000#32 = ((512 : ℝ) : EReal) := by
    simp [Ideal.ofBits, Ideal.ieee, -EReal.coe_mul]; norm_num
  have hc' : (c : ℝ) < 512 := by exact_mod_cast hc
  have hc0 : (0 : ℝ) ≤ c := Nat.cast_nonneg c
  constructor
  · rw [h1, ← EReal.coe_mul]
    have : ⌊(p : ℝ) * (1 / 512)⌋ = (r : ℤ) := by
      rw [Int.floor_eq_iff]; subst hp; push_cast; constructor <;> linarith
    have e : Ideal.liftRound Int.floor (((p : ℝ) * (1 / 512) : ℝ) : EReal) = ((⌊(p : ℝ) * (1 / 512)⌋ : ℝ) : EReal) := rfl
    rw [e, this]; norm_cast
  · rw [h2, ← EReal.coe_mul, ← EReal.coe_sub]; subst hp
    congr 1; push_cast; ring

end Cert.Proof.Value

end
-- ==== Proof.Value.Block.lean ====
/-
  The loss kernel's values at a group of its block: which groups it keeps and what each adds, in the terms of Scalar.lean.
-/
module

public import proofs.«01_k».proof.Proof.Ideal.Body
public import proofs.«01_k».proof.Proof.Value.Scalar
public import Idealize.ShloMosaic.Lib.Pipeline.Value
public import Idealize.ShloMosaic.Lib.Pointwise

@[expose] public section

noncomputable section

namespace Cert.Proof.Value

open Cert.KernelIdeal Cert.KernelIdeal.Gen
open Idealize.ShloMosaic

/-! ## Indices -/

def ix4 (c : Fin 2) (k : Fin 3) (j : S4x7424.Idx) : S2x3x4x7424.Idx := fun | 0 => c | 1 => k | 2 => j 0 | 3 => j 1
def ix3 (k : Fin 3) (j : S4x7424.Idx) : S3x4x7424.Idx := fun | 0 => k | 1 => j 0 | 2 => j 1
def ixn (a : Fin 9) (j : S4x7424.Idx) : S4x9.Idx := fun | 0 => j 0 | 1 => a
def ix1 (j : S4x7424.Idx) : S4x1.Idx := fun | 0 => j 0 | 1 => (0 : Fin 1)

theorem depth_leaf {α : Type} (x : S2x3x4x7424.Idx → α) (c : Fin 2) (k : Fin 3) (off : Fin 4 → ℕ) (ho : off = ![c.val, k.val, 0, 0])
    (h : S2x3x4x7424.Slices off S1x1x4x7424) (h' : S1x1x4x7424.ShapeCasts S4x7424) :
    shapeCast S4x7424 (extractStridedSlice S1x1x4x7424 off x h) h' = fun j => x (ix4 c k j) := by
  subst ho
  funext j
  let q : S1x1x4x7424.Idx := fun | 0 => (0 : Fin 1) | 1 => (0 : Fin 1) | 2 => j 0 | 3 => j 1
  rw [shapeCast_apply _ h' j q (by
    rw [Shape.rowMajor_val_four, Shape.rowMajor_val_two]; simp [q])]
  exact extractStridedSlice_apply _ x h q (ix4 c k j) (by intro a; fin_cases a <;> simp [q, ix4])

theorem word_leaf {α : Type} (x : S3x4x7424.Idx → α) (k : Fin 3) (off : Fin 3 → ℕ) (ho : off = ![k.val, 0, 0])
    (h : S3x4x7424.Slices off S1x4x7424) (h' : S1x4x7424.ShapeCasts S4x7424) :
    shapeCast S4x7424 (extractStridedSlice S1x4x7424 off x h) h' = fun j => x (ix3 k j) := by
  subst ho
  funext j
  let q : S1x4x7424.Idx := fun | 0 => (0 : Fin 1) | 1 => j 0 | 2 => j 1
  rw [shapeCast_apply _ h' j q (by
    rw [Shape.rowMajor_val_three, Shape.rowMajor_val_two]; simp [q])]
  exact extractStridedSlice_apply _ x h q (ix3 k j) (by intro a; fin_cases a <;> simp [q, ix3])

theorem col_leaf {α : Type} (x : S4x1.Idx → α) (h : S4x1.Broadcasts S4x7424) :
    broadcastTo S4x7424 x h = fun j => x (ix1 j) := by
  funext j
  exact broadcastTo_apply x h j (ix1 j) (by intro a; fin_cases a <;> rfl)

theorem mat_leaf {α : Type} (x : S4x9.Idx → α) (a : Fin 9) (off : Fin 2 → ℕ) (ho : off = ![0, a.val]) (h : S4x9.Slices off S4x1) (j : S4x7424.Idx) :
    extractStridedSlice S4x1 off x h (ix1 j) = x (ixn a j) := by
  subst ho
  exact extractStridedSlice_apply _ x h (ix1 j) (ixn a j) (by intro b; fin_cases b <;> simp [ix1, ixn])

variable (g : Vec Ideal S2x3x4x7424 .f32) (rc : Vec Ideal S3x4x7424 .f32) (n : Vec Ideal S4x9 .f32)

/-! ## The points -/

def rAt (k : Fin 3) (j : S4x7424.Idx) : EReal := Ideal.liftRound Int.floor (rc (ix3 k j) * Ideal.ofBits .f32 0x3B000000#32)
def cAt (k : Fin 3) (j : S4x7424.Idx) : EReal := rc (ix3 k j) - rAt rc k j * Ideal.ofBits .f32 0x44000000#32

/-- Point `k` of group `j`: of the truth (`c` nought) or of the prediction. -/
def ptAt (c : Fin 2) (k : Fin 3) (j : S4x7424.Idx) : Pt :=
  ptK (rAt rc k j) (cAt rc k j) (n (ixn 2 j)) (n (ixn 5 j)) (n (ixn 0 j)) (g (ix4 c k j))

theorem p6 : k1_pay6 (F := Ideal) g = g := shapeCast_self _ _
theorem p12 : k1_pay12 (F := Ideal) g = fun j => (ptAt g rc n 0 0 j).z := by unfold k1_pay12; rw [p6]; exact depth_leaf g 0 0 _ rfl _ _
theorem p13 : k1_pay13 (F := Ideal) g = fun j => (ptAt g rc n 1 0 j).z := by unfold k1_pay13; rw [p6]; exact depth_leaf g 1 0 _ rfl _ _
theorem p21 : k1_pay21 (F := Ideal) g = fun j => (ptAt g rc n 0 1 j).z := depth_leaf g 0 1 _ rfl _ _
theorem p22 : k1_pay22 (F := Ideal) g = fun j => (ptAt g rc n 1 1 j).z := depth_leaf g 1 1 _ rfl _ _
theorem p29 : k1_pay29 (F := Ideal) g = fun j => (ptAt g rc n 0 2 j).z := depth_leaf g 0 2 _ rfl _ _
theorem p30 : k1_pay30 (F := Ideal) g = fun j => (ptAt g rc n 1 2 j).z := depth_leaf g 1 2 _ rfl _ _

theorem p2 : k1_pay2 (F := Ideal) n = n := shapeCast_self _ _
theorem p7 : k1_pay7 (F := Ideal) rc = rc := shapeCast_self _ _

theorem row_leaf (k : Fin 3) (off : Fin 3 → ℕ) (ho : off = ![k.val, 0, 0]) (h h') :
    shapeCast S4x7424 (extractStridedSlice S1x4x7424 off (k1_pay8 rc) h) h' = fun j => rAt rc k j := by
  rw [word_leaf _ k off ho]; unfold k1_pay8; rw [p7]; rfl

theorem column_leaf (k : Fin 3) (off : Fin 3 → ℕ) (ho : off = ![k.val, 0, 0]) (h h') :
    shapeCast S4x7424 (extractStridedSlice S1x4x7424 off (k1_pay9 rc) h) h' = fun j => cAt rc k j := by
  rw [word_leaf _ k off ho]; unfold k1_pay9 k1_pay8; rw [p7]; rfl

theorem f_leaf (h) : broadcastTo S4x7424 (k1_pay3 n) h = fun j => Ideal.div one (n (ixn 0 j)) := by
  rw [col_leaf]; unfold k1_pay3; rw [p2]; funext j
  exact congrArg (Ideal.div one) (mat_leaf n 0 _ rfl _ j)

theorem u_leaf (h) : broadcastTo S4x7424 (k1_pay4 n) h = fun j => n (ixn 2 j) := by
  rw [col_leaf]; unfold k1_pay4; rw [p2]; funext j
  exact mat_leaf n 2 _ rfl _ j

theorem v_leaf (h) : broadcastTo S4x7424 (k1_pay5 n) h = fun j => n (ixn 5 j) := by
  rw [col_leaf]; unfold k1_pay5; rw [p2]; funext j
  exact mat_leaf n 5 _ rfl _ j

theorem p10 : k1_pay10 n rc = fun j => (cAt rc 0 j - n (ixn 2 j)) * Ideal.div one (n (ixn 0 j)) := by
  unfold k1_pay10; dsimp only; rw [f_leaf, u_leaf, column_leaf rc 0 ![0, 0, 0] rfl]; rfl
theorem p11 : k1_pay11 n rc = fun j => (rAt rc 0 j - n (ixn 5 j)) * Ideal.div one (n (ixn 0 j)) := by
  unfold k1_pay11; dsimp only; rw [f_leaf, v_leaf, row_leaf rc 0 ![0, 0, 0] rfl]; rfl
theorem p18 : k1_pay18 n rc = fun j => cAt rc 1 j - n (ixn 2 j) := by
  unfold k1_pay18; dsimp only; rw [u_leaf, column_leaf rc 1 ![1, 0, 0] rfl]; rfl
theorem p19 : k1_pay19 (k1_pay3 n) (k1_pay18 n rc) = fun j => (cAt rc 1 j - n (ixn 2 j)) * Ideal.div one (n (ixn 0 j)) := by
  unfold k1_pay19; dsimp only; rw [f_leaf, p18]; rfl
theorem p20 : k1_pay20 (k1_pay3 n) (k1_pay5 n) (k1_pay8 rc) = fun j => (rAt rc 1 j - n (ixn 5 j)) * Ideal.div one (n (ixn 0 j)) := by
  unfold k1_pay20; dsimp only; rw [f_leaf, v_leaf, row_leaf rc 1 ![1, 0, 0] rfl]; rfl
theorem p27 : k1_pay27 (k1_pay3 n) (k1_pay4 n) (k1_pay9 rc) = fun j => (cAt rc 2 j - n (ixn 2 j)) * Ideal.div one (n (ixn 0 j)) := by
  unfold k1_pay27; dsimp only; rw [f_leaf, u_leaf, column_leaf rc 2 ![2, 0, 0] rfl]; rfl
theorem p28 : k1_pay28 (k1_pay3 n) (k1_pay5 n) (k1_pay8 rc) = fun j => (rAt rc 2 j - n (ixn 5 j)) * Ideal.div one (n (ixn 0 j)) := by
  unfold k1_pay28; dsimp only; rw [f_leaf, v_leaf, row_leaf rc 2 ![2, 0, 0] rfl]; rfl

theorem p14 : k1_pay14 n g rc = fun j => (ptAt g rc n 0 0 j).x := by unfold k1_pay14; rw [p10, p12 g rc n]; rfl
theorem p15 : k1_pay15 n g rc = fun j => (ptAt g rc n 0 0 j).y := by unfold k1_pay15; rw [p11, p12 g rc n]; rfl
theorem p16 : k1_pay16 n g rc = fun j => (ptAt g rc n 1 0 j).x := by unfold k1_pay16; rw [p10, p13 g rc n]; rfl
theorem p17 : k1_pay17 n g rc = fun j => (ptAt g rc n 1 0 j).y := by unfold k1_pay17; rw [p11, p13 g rc n]; rfl
theorem p23 : k1_pay23 (k1_pay3 n) g (k1_pay18 n rc) = fun j => (ptAt g rc n 0 1 j).x := by
  unfold k1_pay23; rw [p19, p21 g rc n]; rfl
theorem p24 : k1_pay24 (k1_pay3 n) (k1_pay5 n) g (k1_pay8 rc) = fun j => (ptAt g rc n 0 1 j).y := by
  unfold k1_pay24; rw [p20, p21 g rc n]; rfl
theorem p25 : k1_pay25 (k1_pay3 n) g (k1_pay18 n rc) = fun j => (ptAt g rc n 1 1 j).x := by
  unfold k1_pay25; rw [p19, p22 g rc n]; rfl
theorem p26 : k1_pay26 (k1_pay3 n) (k1_pay5 n) g (k1_pay8 rc) = fun j => (ptAt g rc n 1 1 j).y := by
  unfold k1_pay26; rw [p20, p22 g rc n]; rfl
theorem p31 : k1_pay31 (k1_pay3 n) (k1_pay4 n) g (k1_pay9 rc) = fun j => (ptAt g rc n 0 2 j).x := by
  unfold k1_pay31; rw [p27, p29 g rc n]; rfl
theorem p32 : k1_pay32 (k1_pay3 n) (k1_pay5 n) g (k1_pay8 rc) = fun j => (ptAt g rc n 0 2 j).y := by
  unfold k1_pay32; rw [p28, p29 g rc n]; rfl
theorem p33 : k1_pay33 (k1_pay3 n) (k1_pay4 n) g (k1_pay9 rc) = fun j => (ptAt g rc n 1 2 j).x := by
  unfold k1_pay33; rw [p27, p30 g rc n]; rfl
theorem p34 : k1_pay34 (k1_pay3 n) (k1_pay5 n) g (k1_pay8 rc) = fun j => (ptAt g rc n 1 2 j).y := by
  unfold k1_pay34; rw [p28, p30 g rc n]; rfl

/-! ## The differences of a group's points -/

def D0 (j : S4x7424.Idx) : Pt := (ptAt g rc n 0 1 j).sub (ptAt g rc n 0 0 j)
def D1 (j : S4x7424.Idx) : Pt := (ptAt g rc n 0 2 j).sub (ptAt g rc n 0 0 j)
def D2 (j : S4x7424.Idx) : Pt := (ptAt g rc n 0 2 j).sub (ptAt g rc n 0 1 j)

theorem p35 : k1_pay35 (k1_pay3 n) g (k1_pay14 n g rc) (k1_pay18 n rc) = fun j => (D0 g rc n j).x := by
  unfold k1_pay35; rw [p23, p14]; rfl
theorem p36 : k1_pay36 (k1_pay3 n) (k1_pay5 n) g (k1_pay8 rc) (k1_pay15 n g rc) = fun j => (D0 g rc n j).y := by
  unfold k1_pay36; rw [p24, p15]; rfl
theorem p37 : k1_pay37 g (k1_pay12 g) = fun j => (D0 g rc n j).z := by
  unfold k1_pay37; rw [p21 g rc n, p12 g rc n]; rfl
theorem p38 : k1_pay38 (k1_pay3 n) (k1_pay4 n) g (k1_pay9 rc) (k1_pay14 n g rc) = fun j => (D1 g rc n j).x := by
  unfold k1_pay38; rw [p31, p14]; rfl
theorem p39 : k1_pay39 (k1_pay3 n) (k1_pay5 n) g (k1_pay8 rc) (k1_pay15 n g rc) = fun j => (D1 g rc n j).y := by
  unfold k1_pay39; rw [p32, p15]; rfl
theorem p40 : k1_pay40 g (k1_pay12 g) = fun j => (D1 g rc n j).z := by
  unfold k1_pay40; rw [p29 g rc n, p12 g rc n]; rfl
theorem p41 : k1_pay41 (k1_pay3 n) (k1_pay4 n) g (k1_pay9 rc) (k1_pay18 n rc) = fun j => (D2 g rc n j).x := by
  unfold k1_pay41; rw [p31, p23]; rfl
theorem p42 : k1_pay42 (k1_pay3 n) (k1_pay5 n) g (k1_pay8 rc) = fun j => (D2 g rc n j).y := by
  unfold k1_pay42; rw [p32, p24]; rfl
theorem p43 : k1_pay43 (F := Ideal) g = fun j => (D2 g rc n j).z := by
  unfold k1_pay43; rw [p29 g rc n, p21 g rc n]; rfl

theorem p44 : k1_pay44 (k1_pay3 n) (k1_pay5 n) g (k1_pay8 rc) (k1_pay12 g) (k1_pay14 n g rc) (k1_pay15 n g rc) (k1_pay18 n rc)
    = fun j => dot (D0 g rc n j) (D0 g rc n j) := by
  unfold k1_pay44; rw [p35, p36, p37 g rc n]; rfl
theorem p45 : k1_pay45 (k1_pay3 n) (k1_pay4 n) (k1_pay5 n) g (k1_pay8 rc) (k1_pay9 rc) (k1_pay12 g) (k1_pay14 n g rc) (k1_pay15 n g rc) (k1_pay18 n rc)
    = fun j => dot (D0 g rc n j) (D1 g rc n j) := by
  unfold k1_pay45; rw [p35, p36, p37 g rc n, p38, p39, p40 g rc n]; rfl
theorem p46 : k1_pay46 (k1_pay3 n) (k1_pay4 n) (k1_pay5 n) g (k1_pay8 rc) (k1_pay9 rc) (k1_pay12 g) (k1_pay14 n g rc) (k1_pay15 n g rc) (k1_pay18 n rc)
    = fun j => dot (D0 g rc n j) (D2 g rc n j) := by
  unfold k1_pay46; rw [p35, p36, p37 g rc n, p41, p42, p43 g rc n]; rfl

/-! ## Which groups are kept -/

theorem kept_apply (j : S4x7424.Idx) :
    Cert.Proof.Ideal.kept g rc n j = keepK (ptAt g rc n 0 0 j) (ptAt g rc n 0 1 j) (ptAt g rc n 0 2 j) := by
  unfold Cert.Proof.Ideal.kept
  rw [p6, p44, p45, p46, p35, p36, p37 g rc n, p38, p39, p40 g rc n, p41, p42, p43 g rc n, p12 g rc n, p21 g rc n, p29 g rc n]
  rfl

/-! ## What a block adds -/

theorem iota_leaf (h) : iota .tc S4x7424 32 [1] h = fun j => BitVec.ofNat 32 (j 1).val := by
  funext j; simp [iota]

/-- The group's weight: kept, and not of the padding. -/
def wAt (i : grid1.Coords) (j : S4x7424.Idx) : EReal :=
  asK (keepK (ptAt g rc n 0 0 j) (ptAt g rc n 0 1 j) (ptAt g rc n 0 2 j)
    &&& IntOp.cmpi .slt (BitVec.ofNat 32 (i 0).val * 7424#32 + BitVec.ofNat 32 (j 1).val) 29491#32)

def lossAt (j : S4x7424.Idx) : EReal :=
  lossK (ptAt g rc n 0 0 j) (ptAt g rc n 0 1 j) (ptAt g rc n 0 2 j) (ptAt g rc n 1 0 j) (ptAt g rc n 1 1 j) (ptAt g rc n 1 2 j)

theorem p90 (i : grid1.Coords) :
    k1_pay90 (F := Ideal) (BitVec.ofNat 32 (i 0).val) (Cert.Proof.Ideal.kept g rc n) = fun j => wAt g rc n i j := by
  unfold k1_pay90
  rw [iota_leaf, show Cert.Proof.Ideal.kept g rc n = _ from funext (kept_apply g rc n)]
  rfl

theorem sum_shapeCast {s t : Shape} (x : s.Idx → EReal) (h : s.ShapeCasts t) : ∑ i, shapeCast t x h i = ∑ j, x j := by
  unfold shapeCast
  exact Equiv.sum_comp (Shape.reshapeEquiv h) x

/-- A sum over every axis, into a shape of one element. -/
theorem sum_all {s t : Shape} {axes : List (Fin s.rank)} (x : FVec Ideal s .f32) (acc) (hr : s.Reduces axes t) (hp hq)
    (ht : ∀ b, t.size b = 1) (k : t.Idx) : multiReduction (F := Ideal) .add axes t x acc hr hp hq k = ∑ i, x i := by
  show (∑ i ∈ Finset.univ.filter (fun i => hr.drop i = k), x i) = _
  rw [Finset.filter_true_of_mem]
  intro i _
  funext b
  exact Fin.ext (by have := (hr.drop i b).isLt; have := (k b).isLt; have := ht b; omega)

/-- A whole block summed. -/
theorem block_sum (x : S4x7424.Idx → EReal) (h h' h'' hr) (hp hq) :
    extractAt ![0, 0, 0] (shapeCast S1x1x1 (multiReduction (F := Ideal) (φ := .f32) .add [1, 2] S1 (shapeCast S1x4x7424 x h) 0x00000000#32 hr hp hq) h') h''
      = ∑ j : S4x7424.Idx, x j := by
  unfold extractAt
  exact (sum_all _ _ hr hp hq (by intro b; fin_cases b; rfl) _).trans (sum_shapeCast x h)

theorem stepB_apply (i : grid1.Coords) (b : EReal) :
    Cert.Proof.Ideal.stepB (F := Ideal) i g rc n b = b + ∑ j, wAt g rc n i j := by
  unfold Cert.Proof.Ideal.stepB k1_pay92
  rw [p90]
  exact congrArg (b + ·) (block_sum _ _ _ _ _ _ _)

theorem stepA_apply (i : grid1.Coords) (a : EReal) :
    Cert.Proof.Ideal.stepA (F := Ideal) i g rc n a = a + ∑ j, lossAt g rc n j * wAt g rc n i j := by
  unfold Cert.Proof.Ideal.stepA k1_pay91
  dsimp only
  rw [p90, p6, p35, p36, p37 g rc n, p38, p39, p40 g rc n, p13 g rc n, p16, p17, p22 g rc n, p25, p26, p30 g rc n, p33, p34]
  exact congrArg (a + ·) (block_sum _ _ _ _ _ _ _)

end Cert.Proof.Value

end
-- ==== Proof.Value.Group.lean ====
/-
  The loss of the four arguments it depends on: the two maps of depths, the cameras' matrices and the table of pixels. Both
  programs are shown to leave `total`. The last lemma re-blocks the sum over the groups into the kernel's four chunks of
  columns, the last of which runs past the groups and adds nought there.
-/
module

public import proofs.«01_k».proof.Proof.Value.Scalar
public import Idealize.ShloMosaic.Lib.Pointwise.Sums

@[expose] public section

noncomputable section

namespace Cert.Proof.Value

open Idealize.ShloMosaic

/-! ## The arguments' shapes and indices -/

abbrev Img : Shape := ⟨4, ![4, 1, 384, 384]⟩
abbrev Cam : Shape := ⟨3, ![4, 3, 3]⟩
abbrev Pix : Shape := ⟨3, ![3, 4, 29491]⟩
abbrev Grp : Shape := ⟨2, ![4, 29491]⟩

def imgIx (b : Fin 4) (p : ℕ) : Img.Idx := fun
  | 0 => b
  | 1 => (0 : Fin 1)
  | 2 => (⟨p / 384 % 384, Nat.mod_lt _ (by decide)⟩ : Fin 384)
  | 3 => (⟨p % 384, Nat.mod_lt _ (by decide)⟩ : Fin 384)
def camIx (b : Fin 4) (i j : Fin 3) : Cam.Idx := fun | 0 => b | 1 => i | 2 => j
def pixIx (k : Fin 3) (b : Fin 4) (n : Fin 29491) : Pix.Idx := fun | 0 => k | 1 => b | 2 => n

/-! ## A pair of axes summed -/

def two {a b : ℕ} (i : Fin a) (j : Fin b) : (⟨2, ![a, b]⟩ : Shape).Idx := fun | 0 => i | 1 => j

def twoEquiv (a b : ℕ) : (⟨2, ![a, b]⟩ : Shape).Idx ≃ Fin a × Fin b where
  toFun j := (j 0, j 1)
  invFun p := two p.1 p.2
  left_inv j := by funext c; fin_cases c <;> rfl
  right_inv _ := rfl

theorem sum_two {a b : ℕ} (f : (⟨2, ![a, b]⟩ : Shape).Idx → EReal) : ∑ j, f j = ∑ i : Fin a, ∑ n : Fin b, f (two i n) := by
  rw [← Fintype.sum_prod_type']
  exact ((twoEquiv a b).symm.sum_comp f).symm

/-! ## The loss -/

variable (A : Img.Idx → EReal) (K : Cam.Idx → EReal) (P : Pix.Idx → BitVec 32)

/-- Pixel `p` of map `b`, carried into space. -/
def pixPt (b : Fin 4) (p : ℕ) : Pt :=
  ptR (((p / 384 : ℕ) : ℝ) : EReal) (((p % 384 : ℕ) : ℝ) : EReal) (K (camIx b 0 2)) (K (camIx b 1 2)) (K (camIx b 0 0)) (A (imgIx b p))

/-- Point `k` of group `n` of sample `b`. -/
def member (k : Fin 3) (b : Fin 4) (n : Fin 29491) : Pt := pixPt A K b (P (pixIx k b n)).toNat

def weight (b : Fin 4) (n : Fin 29491) : EReal := asR (keepR (member A K P 0 b n) (member A K P 1 b n) (member A K P 2 b n))

variable (A' : Img.Idx → EReal)

def loss (b : Fin 4) (n : Fin 29491) : EReal :=
  lossR (member A K P 0 b n) (member A K P 1 b n) (member A K P 2 b n) (member A' K P 0 b n) (member A' K P 1 b n) (member A' K P 2 b n)

/-- The loss: the weighted sum over three times the weight. -/
def total : EReal :=
  Ideal.div (∑ b, ∑ n, loss A K P A' b n * weight A K P b n)
    ((∑ b, ∑ n, weight A K P b n) * Ideal.ofBits .f32 0x40400000#32 + eps)

/-! ## The sum in chunks -/

/-- What a column of the padded array adds: a group's term, or nought. -/
def ext0 (f : Fin 4 → Fin 29491 → EReal) (b : Fin 4) (n : ℕ) : EReal := if h : n < 29491 then f b ⟨n, h⟩ else 0

theorem sum_chunks (f : Fin 4 → Fin 29491 → EReal) :
    ∑ t : Fin 4, ∑ b : Fin 4, ∑ q : Fin 7424, ext0 f b (t.val * 7424 + q.val) = ∑ b, ∑ n, f b n := by
  rw [Finset.sum_comm]
  refine Finset.sum_congr rfl fun b _ => ?_
  have h1 : ∑ n : Fin 29696, ext0 f b n.val = ∑ t : Fin 4, ∑ q : Fin 7424, ext0 f b (t.val * 7424 + q.val) := by
    rw [Fin.sum_univ_tiles 4 7424 (by norm_num) (fun n : Fin 29696 => ext0 f b n.val)]
  rw [← h1, ← Finset.sum_range (fun n => ext0 f b n)]
  have h2 : ∑ n, f b n = ∑ n ∈ Finset.range 29491, ext0 f b n := by
    rw [Finset.sum_range]
    refine Finset.sum_congr rfl fun n _ => ?_
    rw [ext0, dif_pos n.isLt]
  rw [h2]
  symm
  refine Finset.sum_subset (Finset.range_mono (by norm_num)) fun n _ hn => ?_
  rw [ext0, dif_neg (by simpa using hn)]

end Cert.Proof.Value

end
-- ==== Proof.Value.Kern.lean ====
/-
  What the kernel leaves: `total` of its arguments. The gathered array holds each point's depth, the packed words each
  pixel's row and column, and the blocks of the loss kernel are chunks of columns of these.
-/
module

public import proofs.«01_k».proof.Proof.Value.Block
public import proofs.«01_k».proof.Proof.Value.Group
public import proofs.«01_k».proof.Proof.Ideal.Words

@[expose] public section

noncomputable section

namespace Cert.Proof.Value

open Cert.KernelIdeal Cert.KernelIdeal.Gen
open Idealize.ShloMosaic Idealize.ShloMosaic.TcCoe

/-! ## The blocks at an index -/

/-- Column `q` of chunk `t`. -/
def colOf (t : Fin cfg1.N) (q : Fin 7424) : Fin 29696 := ⟨t.val * 7424 + q.val, by
  have h1 : t.val < 4 := t.isLt
  omega⟩

def out4 (c : Fin 2) (k : Fin 3) (b : Fin 4) (n : Fin 29696) : S2x3x4x29696.Idx := fun | 0 => c | 1 => k | 2 => b | 3 => n
def out3 (k : Fin 3) (b : Fin 4) (n : Fin 29696) : S3x4x29696.Idx := fun | 0 => k | 1 => b | 2 => n

variable (V : ∀ (c : Dev nD) (b : Ref sig .tc), Buf (Elt Ideal) ((c : Thread nD τ).loc b))

theorem index0 (t : Fin cfg1.N) : win1_0.index t = ![0, 0, 0, t.val] := by
  funext a; fin_cases t <;> fin_cases a <;> rfl
theorem index1 (t : Fin cfg1.N) : win1_1.index t = ![0, 0, t.val] := by
  funext a; fin_cases t <;> fin_cases a <;> rfl
theorem index2 (t : Fin cfg1.N) : win1_2.index t = ![0, 0] := by
  funext a; fin_cases t <;> fin_cases a <;> rfl

theorem gB_apply (d : Dev nD) (t : Fin cfg1.N) (c : Fin 2) (k : Fin 3) (j : S4x7424.Idx) :
    Cert.Proof.Ideal.gB V d t (ix4 c k j) = V d main_v18 (out4 c k (j 0) (colOf t (j 1))) := by
  show V d main_v18 _ = _
  congr 1
  funext a
  apply Fin.ext
  refine (Pipeline.Window.rect_emb_val win1_0 t (ix4 c k j) a).trans ?_
  rw [index0]
  fin_cases a
  all_goals first
    | exact (Nat.zero_add _)
    | rfl

theorem rcB_apply (d : Dev nD) (t : Fin cfg1.N) (k : Fin 3) (j : S4x7424.Idx) :
    Cert.Proof.Ideal.rcB V d t (ix3 k j) = V d main_v15 (out3 k (j 0) (colOf t (j 1))) := by
  show V d main_v15 _ = _
  congr 1
  funext a
  apply Fin.ext
  refine (Pipeline.Window.rect_emb_val win1_1 t (ix3 k j) a).trans ?_
  rw [index1]
  fin_cases a
  all_goals first
    | exact (Nat.zero_add _)
    | rfl

theorem nB_apply (d : Dev nD) (t : Fin cfg1.N) (j : S4x9.Idx) : Cert.Proof.Ideal.nB V d t j = V d main_v19 j := by
  show V d main_v19 _ = _
  congr 1
  funext a
  apply Fin.ext
  refine (Pipeline.Window.rect_emb_val win1_2 t j a).trans ?_
  rw [index2]
  fin_cases a <;> exact (Nat.zero_add _)

/-! ## The words -/

/-- Pixel `x` packed: its row times 512 plus its column. -/
theorem pack_word (x : BitVec 32) (hx : x.toNat < 147456) :
    ((IntOp.divsi .host x 384#32 * 512#32 + IntOp.remsi .host x 384#32).toInt : ℝ) = ((512 * (x.toNat / 384) + x.toNat % 384 : ℕ) : ℝ) := by
  have hc : ¬ IntOp.SDivCorner x 384#32 := by
    rintro (h | ⟨-, h⟩) <;> revert h <;> decide
  unfold IntOp.divsi IntOp.remsi
  rw [if_neg hc, if_neg hc]
  have hm : x.msb = false := by rw [BitVec.msb_eq_false_iff_two_mul_lt]; omega
  have hm' : (384#32 : BitVec 32).msb = false := by decide
  rw [BitVec.sdiv_eq, BitVec.srem_eq, hm, hm']
  simp only
  have e : (x.udiv 384#32 * 512#32 + x % 384#32).toNat = 512 * (x.toNat / 384) + x.toNat % 384 := by
    rw [BitVec.toNat_add, BitVec.toNat_mul, BitVec.udiv_eq, BitVec.toNat_udiv, BitVec.toNat_umod]
    simp only [BitVec.toNat_ofNat, Nat.reducePow, Nat.reduceMod]
    omega
  rw [BitVec.toInt_eq_toNat_cond, e, if_pos (by omega)]
  norm_cast

theorem padded_at (a : S3x4x29491.Idx → BitVec 32) (k : Fin 3) (b : Fin 4) (n : Fin 29696) (hn : n.val < 29491) :
    Cert.Proof.Ideal.padded a (out3 k b n) = a (pixIx k b ⟨n.val, hn⟩) := by
  unfold Cert.Proof.Ideal.padded
  exact pad_apply_of_inside _ _ _ _ _ _ _ (out3 k b n) (pixIx k b ⟨n.val, hn⟩) (by
    intro a; fin_cases a <;> simp [out3, pixIx])

/-- An image's word in the flat array. -/
theorem flat_at (A : S4x1x384x384.Idx → EReal) (b : Fin 4) (p : ℕ) (hp : p < 147456) (h) :
    shapeCast S589824 A h (Cert.Proof.Ideal.tix (b.val * 147456 + p)) = A (imgIx b p) := by
  refine shapeCast_apply A h _ (imgIx b p) ?_
  rw [Shape.rowMajor_val_four, Shape.rowMajor_val_one]
  have hb := b.isLt
  simp only [imgIx, Cert.Proof.Ideal.tix]
  simp
  omega

theorem cam_at (K : S4x3x3.Idx → EReal) (b : Fin 4) (i j : Fin 3) (h) (x : S4x9.Idx) (h0 : (x 0).val = b.val) (h1 : (x 1).val = 3 * i.val + j.val) :
    shapeCast S4x9 K h x = K (camIx b i j) := by
  refine shapeCast_apply K h _ (camIx b i j) ?_
  rw [Shape.rowMajor_val_three, Shape.rowMajor_val_two, h0, h1]
  simp [camIx]
  omega

/-! ## The arrays the loss kernel reads -/

open Cert.Proof.Ideal (dr Ok opd X1 X2 X3 X4 X5 V3 InRange)

variable (m : (ℓ : Loc nD τ sig) → Buf (Elt Ideal) ℓ) (h : Ok m)

abbrev argA (d : Dev nD) : Img.Idx → EReal := m ((d.tc : Thread nD τ).loc main_arg1)
abbrev argA' (d : Dev nD) : Img.Idx → EReal := m ((d.tc : Thread nD τ).loc main_arg0)
abbrev argK (d : Dev nD) : Cam.Idx → EReal := m ((d.tc : Thread nD τ).loc main_arg3)
abbrev argP (d : Dev nD) : Pix.Idx → BitVec 32 := m ((d.tc : Thread nD τ).loc main_arg4)

theorem V3_v18 (d : Dev nD) : V3 m h d main_v18 = (opd m h d).out := by
  show X3 m h d (dr main_v18) = _
  unfold X3 Cert.Proof.Ideal.mid
  rw [StableHlo.reshape_result_ne' _ _ _ _ _ (by decide), Cert.Proof.Ideal.X2_out]

theorem V3_v15 (d : Dev nD) : V3 m h d main_v15 = X1 m d (dr main_v15) := by
  show X3 m h d (dr main_v15) = _
  unfold X3 Cert.Proof.Ideal.mid
  rw [StableHlo.reshape_result_ne' _ _ _ _ _ (by decide), Cert.Proof.Ideal.X2_ne m h d (by decide)]

theorem V3_v19 (d : Dev nD) : V3 m h d main_v19 = shapeCast S4x9 (argK m d) shapeCasts_S4x3x3_S4x9 := by
  show X3 m h d (dr main_v19) = _
  unfold X3 Cert.Proof.Ideal.mid
  rw [StableHlo.reshape_result', Cert.Proof.Ideal.X2_ne m h d (by decide), Cert.Proof.Ideal.X1_arg3]
  rfl

variable (hr : ∀ d : Dev nD, InRange (m ((d.tc : Thread nD τ).loc main_arg4)))

include hr in
theorem word_at (d : Dev nD) (k : Fin 3) (b : Fin 4) (n : Fin 29696) (hn : n.val < 29491) :
    V3 m h d main_v15 (out3 k b n)
      = (((512 * ((argP m d (pixIx k b ⟨n.val, hn⟩)).toNat / 384) + (argP m d (pixIx k b ⟨n.val, hn⟩)).toNat % 384 : ℕ) : ℝ) : EReal) := by
  rw [V3_v15, Cert.Proof.Ideal.X1_v15]
  rw [← pack_word _ (hr d _), ← padded_at (m ((d.tc : Thread nD τ).loc main_arg4)) k b n hn]
  rfl

include hr in
theorem depth_at (d : Dev nD) (c : Fin 2) (k : Fin 3) (b : Fin 4) (n : Fin 29696) (hn : n.val < 29491) :
    V3 m h d main_v18 (out4 c k b n)
      = (if c.val = 0 then argA m d else argA' m d) (imgIx b (argP m d (pixIx k b ⟨n.val, hn⟩)).toNat) := by
  rw [V3_v18]
  have e : (opd m h d).out (out4 c k b n) = (if c.val = 0 then X1 m d (dr main_v16) else X1 m d (dr main_v17))
      (Cert.Proof.Ideal.tix ((X1 m d (dr main_v7) : S16x22272.Idx → BitVec 32) (Shape.reshapeEquiv Cert.Proof.Ideal.numel_words (out3 k b n))).toNat) := by
    have et : Cert.Proof.Ideal.tail (out4 c k b n) = out3 k b n := by funext a; fin_cases a <;> rfl
    rw [← et]; rfl
  rw [e, Cert.Proof.Ideal.X1_v7, Cert.Proof.Ideal.X1_v16, Cert.Proof.Ideal.X1_v17]
  unfold shapeCast
  rw [Shape.reshapeEquiv_reshapeEquiv, Shape.reshapeEquiv_self, Cert.Proof.Ideal.word_eq _ (hr d), padded_at _ k b n hn]
  have hp : (argP m d (pixIx k b ⟨n.val, hn⟩)).toNat < 147456 := hr d _
  split
  · exact flat_at (argA m d) b _ hp shapeCasts_S4x1x384x384_S589824
  · exact flat_at (argA' m d) b _ hp shapeCasts_S4x1x384x384_S589824

/-! ## A block's groups -/

variable (hf : ∀ (d : Dev nD) (b : Fin 4), argK m d (camIx b 0 0) ≠ 0)

include hr hf in
theorem ptAt_eq (d : Dev nD) (t : Fin cfg1.N) (c : Fin 2) (k : Fin 3) (j : S4x7424.Idx) (hn : (colOf t (j 1)).val < 29491) :
    ptAt (Cert.Proof.Ideal.gB (V3 m h) d t) (Cert.Proof.Ideal.rcB (V3 m h) d t) (Cert.Proof.Ideal.nB (V3 m h) d t) c k j
      = member (if c.val = 0 then argA m d else argA' m d) (argK m d) (argP m d) k (j 0) ⟨_, hn⟩ := by
  obtain ⟨p, hp⟩ : ∃ p, p = (argP m d (pixIx k (j 0) ⟨(colOf t (j 1)).val, hn⟩)).toNat := ⟨_, rfl⟩
  have hw := word_at m h hr d k (j 0) _ hn
  have hz := depth_at m h hr d c k (j 0) _ hn
  rw [← hp] at hw hz
  obtain ⟨e1, e2⟩ := unpack _ (p / 384) (p % 384) (lt_trans (Nat.mod_lt _ (by norm_num)) (by norm_num)) rfl
  have er : rAt (Cert.Proof.Ideal.rcB (V3 m h) d t) k j = (((p / 384 : ℕ) : ℝ) : EReal) := by
    unfold rAt
    rw [rcB_apply, hw]
    exact e1
  have ec : cAt (Cert.Proof.Ideal.rcB (V3 m h) d t) k j = (((p % 384 : ℕ) : ℝ) : EReal) := by
    unfold cAt
    rw [er, rcB_apply, hw]
    exact e2
  have c0 : Cert.Proof.Ideal.nB (V3 m h) d t (ixn 0 j) = argK m d (camIx (j 0) 0 0) := by
    rw [nB_apply, V3_v19]; exact cam_at _ _ 0 0 _ _ rfl rfl
  have c2 : Cert.Proof.Ideal.nB (V3 m h) d t (ixn 2 j) = argK m d (camIx (j 0) 0 2) := by
    rw [nB_apply, V3_v19]; exact cam_at _ _ 0 2 _ _ rfl rfl
  have c5 : Cert.Proof.Ideal.nB (V3 m h) d t (ixn 5 j) = argK m d (camIx (j 0) 1 2) := by
    rw [nB_apply, V3_v19]; exact cam_at _ _ 1 2 _ _ rfl rfl
  unfold ptAt
  rw [er, ec, c0, c2, c5, gB_apply, hz]
  refine (pt_eq _ _ _ _ _ _ (hf d (j 0))).trans ?_
  unfold member
  rw [← hp]
  rfl

/-- The comparison that leaves the padding out. -/
theorem inside_bit (t : Fin cfg1.N) (q : Fin 7424) :
    IntOp.cmpi .slt (BitVec.ofNat 32 ((grid1.coords t) 0).val * 7424#32 + BitVec.ofNat 32 q.val) 29491#32
      = BitVec.ofBool (decide ((colOf t q).val < 29491)) := by
  rw [Cert.Proof.Ideal.coords_val]
  have h1 : t.val < 4 := t.isLt
  have h2 := q.isLt
  have e : (BitVec.ofNat 32 t.val * 7424#32 + BitVec.ofNat 32 q.val).toNat = t.val * 7424 + q.val := by
    rw [BitVec.toNat_add, BitVec.toNat_mul]
    simp only [BitVec.toNat_ofNat, Nat.reducePow, Nat.reduceMod]
    omega
  unfold IntOp.cmpi
  simp only
  congr 1
  rw [BitVec.slt, BitVec.toInt_eq_toNat_cond, e, if_pos (by omega)]
  simp only [colOf]
  congr 1
  simp
  omega

abbrev wB (d : Dev nD) (t : Fin cfg1.N) (j : S4x7424.Idx) : EReal :=
  wAt (Cert.Proof.Ideal.gB (V3 m h) d t) (Cert.Proof.Ideal.rcB (V3 m h) d t) (Cert.Proof.Ideal.nB (V3 m h) d t) (grid1.coords t) j
abbrev lB (d : Dev nD) (t : Fin cfg1.N) (j : S4x7424.Idx) : EReal :=
  lossAt (Cert.Proof.Ideal.gB (V3 m h) d t) (Cert.Proof.Ideal.rcB (V3 m h) d t) (Cert.Proof.Ideal.nB (V3 m h) d t) j

include hr hf in
theorem wB_in (d : Dev nD) (t : Fin cfg1.N) (j : S4x7424.Idx) (hn : (colOf t (j 1)).val < 29491) :
    wB m h d t j = weight (argA m d) (argK m d) (argP m d) (j 0) ⟨_, hn⟩ := by
  unfold wB wAt
  rw [inside_bit t (j 1), as_eq, ← keep_eq]
  simp only [ptAt_eq m h hr hf d t _ _ j hn, decide_eq_true hn]
  unfold weight
  have key : ∀ b : BitVec 1, b &&& BitVec.ofBool true = b := by decide
  exact congrArg asR (key _)

theorem wB_out (d : Dev nD) (t : Fin cfg1.N) (j : S4x7424.Idx) (hn : ¬ (colOf t (j 1)).val < 29491) : wB m h d t j = 0 := by
  unfold wB wAt
  rw [inside_bit t (j 1), as_eq, decide_eq_false hn]
  generalize keepK _ _ _ = b
  have e : b &&& BitVec.ofBool false = 0#1 := by revert b; decide
  rw [e]; simp [asR]

include hr hf in
theorem lB_in (d : Dev nD) (t : Fin cfg1.N) (j : S4x7424.Idx) (hn : (colOf t (j 1)).val < 29491) :
    lB m h d t j = loss (argA m d) (argK m d) (argP m d) (argA' m d) (j 0) ⟨_, hn⟩ := by
  unfold lB lossAt
  rw [loss_eq]
  simp only [ptAt_eq m h hr hf d t _ _ j hn]
  rfl

include hr hf in
theorem wB_sum (d : Dev nD) (t : Fin cfg1.N) :
    ∑ j, wB m h d t j = ∑ b : Fin 4, ∑ q : Fin 7424, ext0 (weight (argA m d) (argK m d) (argP m d)) b (t.val * 7424 + q.val) := by
  rw [sum_two]
  refine Finset.sum_congr rfl fun b _ => Finset.sum_congr rfl fun q _ => ?_
  unfold ext0
  split
  · next hn => exact wB_in m h hr hf d t (two b q) hn
  · next hn => exact wB_out m h d t (two b q) hn

include hr hf in
theorem lB_sum (d : Dev nD) (t : Fin cfg1.N) :
    ∑ j, lB m h d t j * wB m h d t j = ∑ b : Fin 4, ∑ q : Fin 7424,
      ext0 (fun b n => loss (argA m d) (argK m d) (argP m d) (argA' m d) b n * weight (argA m d) (argK m d) (argP m d) b n) b (t.val * 7424 + q.val) := by
  rw [sum_two]
  refine Finset.sum_congr rfl fun b _ => Finset.sum_congr rfl fun q _ => ?_
  unfold ext0
  split
  · next hn => rw [wB_in m h hr hf d t (two b q) hn, lB_in m h hr hf d t (two b q) hn]; rfl
  · next hn => rw [wB_out m h d t (two b q) hn, mul_zero]

/-! ## The accumulators and the result -/

theorem acc_step (d : Dev nD) (t : Fin cfg1.N) :
    Cert.Proof.Ideal.acc (V3 m h) d (t.val + 1) = ((Cert.Proof.Ideal.acc (V3 m h) d t.val).1 + ∑ j, lB m h d t j * wB m h d t j,
      (Cert.Proof.Ideal.acc (V3 m h) d t.val).2 + ∑ j, wB m h d t j) := by
  rw [Cert.Proof.Ideal.acc_succ]
  exact Prod.ext (stepA_apply _ _ _ _ _) (stepB_apply _ _ _ _ _)

theorem four_steps (a : ℕ → EReal × EReal) (x y : Fin 4 → EReal) (h0 : a 0 = (0, 0))
    (hs : ∀ t : Fin 4, a (t.val + 1) = ((a t.val).1 + x t, (a t.val).2 + y t)) : a 4 = (∑ t, x t, ∑ t, y t) := by
  have e1 : a 1 = _ := hs 0
  have e2 : a 2 = _ := hs 1
  have e3 : a 3 = _ := hs 2
  have e4 : a 4 = _ := hs 3
  simp only [Fin.val_zero, Fin.val_one, Fin.val_two, show ((3 : Fin 4) : ℕ) = 3 from rfl] at e1 e2 e3 e4
  rw [e4, e3, e2, e1, h0, Fin.sum_univ_four, Fin.sum_univ_four, zero_add, zero_add]

include hr hf in
theorem acc_end (d : Dev nD) :
    Cert.Proof.Ideal.acc (V3 m h) d 4
      = (∑ b, ∑ n, loss (argA m d) (argK m d) (argP m d) (argA' m d) b n * weight (argA m d) (argK m d) (argP m d) b n,
        ∑ b, ∑ n, weight (argA m d) (argK m d) (argP m d) b n) := by
  have e0 : Cert.Proof.Ideal.acc (V3 m h) d 0 = ((0 : EReal), (0 : EReal)) := Prod.ext Ideal.ofBits_zero_f32 Ideal.ofBits_zero_f32
  rw [← sum_chunks, ← sum_chunks]
  refine four_steps (Cert.Proof.Ideal.acc (V3 m h) d) _ _ e0 fun t => ?_
  refine (acc_step m h d t).trans ?_
  exact Prod.ext (congrArg (_ + ·) (lB_sum m h hr hf d t)) (congrArg (_ + ·) (wB_sum m h hr hf d t))

theorem pay1 (a b : EReal) : k1_pay1 (F := Ideal) a b = Ideal.div a (b * Ideal.ofBits .f32 0x40400000#32 + eps) := rfl

include hr hf in
theorem tcRes_eq (d : Dev nD) : Cert.Proof.Ideal.tcRes (V3 m h) d = fun _ => total (argA m d) (argK m d) (argP m d) (argA' m d) := by
  funext i
  show k1_pay1 (F := Ideal) (Cert.Proof.Ideal.acc (V3 m h) d 4).1 (Cert.Proof.Ideal.acc (V3 m h) d 4).2 = _
  rw [acc_end m h hr hf]
  exact pay1 _ _

include hr hf in
theorem result_eq (d : Dev nD) : X5 m h d (dr main_v21) = fun _ => total (argA m d) (argK m d) (argP m d) (argA' m d) := by
  unfold X5 Cert.Proof.Ideal.fin
  rw [StableHlo.reshape_result']
  have e : X4 m h d (Proc.devRef .tc main_v20) = Cert.Proof.Ideal.tcRes (V3 m h) d := Cert.Proof.Ideal.V4_out m h d
  rw [e, tcRes_eq m h hr hf]
  rfl

end Cert.Proof.Value

end
-- ==== Proof.Value.RefMap.lean ====
/-
  The reference's maps of points and its gathers, at an index: coordinate by coordinate, the map holds `pixPt` of each
  pixel, and the gathered array `member` of each group.
-/
module

public import proofs.«01_k».proof.Proof.Gen.ReferenceIdeal.Run
public import proofs.«01_k».proof.Proof.Value.Group
public import Idealize.ShloMosaic.Lib.Pipeline.Value

@[expose] public section

noncomputable section

namespace Cert.Proof.Value

open Cert.ReferenceIdeal Cert.ReferenceIdeal.Gen Cert.ReferenceIdeal.Value
open Idealize.ShloMosaic Idealize.ShloMosaic.TcCoe

/-! ## Reads of the layouts -/

section Reads
variable {α : Type}

def three {a b c : ℕ} (i : Fin a) (j : Fin b) (k : Fin c) : (⟨3, ![a, b, c]⟩ : Shape).Idx := fun | 0 => i | 1 => j | 2 => k

/-- Pixel `p` of a flattened map is the map's word at its row and column. -/
theorem flat_read (x : S4x384x384.Idx → α) (h) (j : S4x147456.Idx) :
    shapeCast S4x147456 x h j = x (three (j 0) ⟨(j 1).val / 384 % 384, Nat.mod_lt _ (by decide)⟩ ⟨(j 1).val % 384, Nat.mod_lt _ (by decide)⟩) := by
  refine shapeCast_apply x h _ _ ?_
  have h1 : (j 1).val < 147456 := (j 1).isLt
  rw [Shape.rowMajor_val_three, Shape.rowMajor_val_two]
  simp only [three]
  simp
  omega

theorem img_read (x : S4x1x384x384.Idx → α) (h) (b : Fin 4) (p : ℕ) :
    shapeCast S4x384x384 x h (three b ⟨p / 384 % 384, Nat.mod_lt _ (by decide)⟩ ⟨p % 384, Nat.mod_lt _ (by decide)⟩) = x (imgIx b p) := by
  refine shapeCast_apply x h _ _ ?_
  rw [Shape.rowMajor_val_four, Shape.rowMajor_val_three]
  simp only [three, imgIx]
  simp

/-- One of a camera's numbers, spread over its map. -/
theorem cam_read (x : S4x3x3.Idx → α) (i k : Fin 3) (off) (ho : off = ![0, i.val, k.val]) (h h1 h2 h3) (j : S4x384x384.Idx) :
    broadcastInDim S4x384x384 ![0, 1, 2] h3 (broadcastInDim S4x1x1 ![0] h2 (shapeCast S4 (extractStridedSlice S4x1x1 off x h) h1)) j
      = x (camIx (j 0) i k) := by
  subst ho
  refine (broadcastInDim_apply _ h3 _ j (three (j 0) (0 : Fin 1) (0 : Fin 1)) (by intro a; fin_cases a <;> rfl)).trans ?_
  refine (broadcastInDim_apply _ h2 _ _ (fun | 0 => j 0 : S4.Idx) (by intro a; fin_cases a; rfl)).trans ?_
  refine (shapeCast_apply _ h1 _ (three (j 0) (0 : Fin 1) (0 : Fin 1)) ?_).trans ?_
  · rw [Shape.rowMajor_val_three, Shape.rowMajor_val_one]; simp [three]
  · refine extractStridedSlice_apply _ x h _ _ ?_
    intro a; fin_cases a <;> simp [three, camIx]

/-- The numbers from 0, laid along the map's columns. -/
theorem col_read (x : S384.Idx → α) (h h1 h2) (j : S4x384x384.Idx) :
    broadcastInDim S4x384x384 ![0, 1, 2] h (broadcastInDim S1x384x384 ![1, 2] h1 (broadcastInDim S384x384 ![1] h2 x)) j
      = x (fun | 0 => j 2) := by
  refine (broadcastInDim_apply _ h _ j (three (0 : Fin 1) (j 1) (j 2)) (by intro a; fin_cases a <;> rfl)).trans ?_
  refine (broadcastInDim_apply _ h1 _ _ (two (j 1) (j 2)) (by intro a; fin_cases a <;> rfl)).trans ?_
  exact broadcastInDim_apply _ h2 _ _ (fun | 0 => j 2 : S384.Idx) (by intro a; fin_cases a; rfl)

/-- The numbers from 0, laid along the map's rows. -/
theorem row_read (x : S384.Idx → α) (h h1 h2) (j : S4x384x384.Idx) :
    broadcastInDim S4x384x384 ![0, 1, 2] h (broadcastInDim S1x384x384 ![1, 2] h1 (broadcastInDim S384x384 ![0] h2 x)) j
      = x (fun | 0 => j 1) := by
  refine (broadcastInDim_apply _ h _ j (three (0 : Fin 1) (j 1) (j 2)) (by intro a; fin_cases a <;> rfl)).trans ?_
  refine (broadcastInDim_apply _ h1 _ _ (two (j 1) (j 2)) (by intro a; fin_cases a <;> rfl)).trans ?_
  exact broadcastInDim_apply _ h2 _ _ (fun | 0 => j 1 : S384.Idx) (by intro a; fin_cases a; rfl)

end Reads

theorem iota_read (n : Fin 384) : (sitofp .f32 (iotaInDim S384 32 0) : FVec Ideal S384 .f32) (fun | 0 => n) = (((n.val : ℕ) : ℝ) : EReal) := by
  show (((BitVec.ofNat 32 n.val).toInt : ℝ) : EReal) = _
  have h : (BitVec.ofNat 32 n.val).toInt = (n.val : ℤ) := by
    have := n.isLt
    rw [BitVec.toInt_eq_toNat_cond, BitVec.toNat_ofNat]
    omega
  rw [h]; norm_cast

/-! ## The gather -/

/-- The gather of whole words out of rows: the start's two numbers, each clamped, are the row and the column. -/
theorem gather_rows {α : Type} (x : S4x147456.Idx → α) (idx : IVec S4x29491x2 32) (b : Fin 4) (n : Fin 29491)
    (r : Fin 4) (p : Fin 147456) (hr : (idx (three b n (0 : Fin 2))).toInt = r.val) (hp : (idx (three b n (1 : Fin 2))).toInt = p.val) :
    Host.gather gather_S4x147456_S4x29491x2_S4x29491_n_01_n_n_01_2_11 x idx (two b n) = x (two r p) := by
  have e : ∀ c, gather_S4x147456_S4x29491x2_S4x29491_n_01_n_n_01_2_11.siIdx (two b n) c = three b n (⟨c.val, c.isLt⟩ : Fin 2) := by
    intro c; funext a; fin_cases a <;> rfl
  have hrl := r.isLt
  have hpl := p.isLt
  unfold Host.gather
  congr 1
  funext a
  apply Fin.ext
  fin_cases a
  · show gather_S4x147456_S4x29491x2_S4x29491_n_01_n_n_01_2_11.start (two b n) idx 0 + _ + _ = r.val
    rw [GatherDims.batchCoord_eq_zero _ _ _ (by decide), GatherDims.offCoord_eq_zero _ _ _ (by decide)]
    unfold GatherDims.start
    rw [dif_pos (by decide), e]
    show min (idx (three b n (0 : Fin 2))).toInt.toNat 3 + 0 + 0 = r.val
    rw [hr]; omega
  · show gather_S4x147456_S4x29491x2_S4x29491_n_01_n_n_01_2_11.start (two b n) idx 1 + _ + _ = p.val
    rw [GatherDims.batchCoord_eq_zero _ _ _ (by decide), GatherDims.offCoord_eq_zero _ _ _ (by decide)]
    unfold GatherDims.start
    rw [dif_pos (by decide), e]
    show min (idx (three b n (1 : Fin 2))).toInt.toNat 147455 + 0 + 0 = p.val
    rw [hp]; omega

variable (V0 : Valuation τ sig (Elt Ideal))

abbrev refA : Img.Idx → EReal := V0 (Proc.devRef .tc main_arg1)
abbrev refA' : Img.Idx → EReal := V0 (Proc.devRef .tc main_arg0)
abbrev refK : Cam.Idx → EReal := V0 (Proc.devRef .tc main_arg3)
abbrev refP : Pix.Idx → BitVec 32 := V0 (Proc.devRef .tc main_arg4)

/-- A map gathered at the table's slice `k` holds, at a group, the map's word at the pixel the table names. -/
theorem gather_read {α : Type} (x : S4x147456.Idx → α) (k : Fin 3) (P : Pix.Idx → BitVec 32) (hP : ∀ j, (P j).toNat < 147456)
    (off) (ho : off = ![k.val, 0, 0]) (h h1 h2 h3 h4 h5 h6) (b : Fin 4) (n : Fin 29491) :
    Host.gather gather_S4x147456_S4x29491x2_S4x29491_n_01_n_n_01_2_11 x
      (concatenate S4x29491x2 2 [⟨S4x29491x1, (broadcastInDim S4x29491x1 ![0, 1] h (broadcastInDim S4x29491 ![0, 1] h1
          (broadcastInDim S4x1 ![0] h2 (iotaInDim S4 32 0))))⟩,
        ⟨S4x29491x1, (broadcastInDim S4x29491x1 ![0, 1] h3 (shapeCast S4x29491 (extractStridedSlice S1x4x29491 off P h4) h5))⟩] h6) (two b n)
      = x (two b ⟨(P (pixIx k b n)).toNat, hP _⟩) := by
  subst ho
  refine gather_rows x _ b n b ⟨_, hP _⟩ ?_ ?_
  · refine (congrArg BitVec.toInt (concatenate_pair_apply_left (t := S4x29491x2) 2 _ _ h6 (three b n (0 : Fin 2)) rfl (three b n (0 : Fin 1))
      (by intro a; fin_cases a <;> rfl))).trans ?_
    refine (congrArg BitVec.toInt (broadcastInDim_apply _ h _ _ (two b n) (by intro a; fin_cases a <;> rfl))).trans ?_
    refine (congrArg BitVec.toInt (broadcastInDim_apply _ h1 _ _ (two b (0 : Fin 1)) (by intro a; fin_cases a <;> rfl))).trans ?_
    refine (congrArg BitVec.toInt (broadcastInDim_apply _ h2 _ _ (fun | 0 => b : S4.Idx) (by intro a; fin_cases a; rfl))).trans ?_
    show (BitVec.ofNat 32 b.val).toInt = (b.val : ℤ)
    have := b.isLt
    rw [BitVec.toInt_eq_toNat_cond, BitVec.toNat_ofNat]
    omega
  · refine (congrArg BitVec.toInt (concatenate_pair_apply_right (t := S4x29491x2) 2 _ _ h6 (three b n (1 : Fin 2)) rfl rfl (three b n (0 : Fin 1))
      (by intro a ha; fin_cases a <;> first | rfl | exact absurd rfl ha) rfl)).trans ?_
    refine (congrArg BitVec.toInt (broadcastInDim_apply _ h3 _ _ (two b n) (by intro a; fin_cases a <;> rfl))).trans ?_
    refine (congrArg BitVec.toInt (shapeCast_apply _ h5 _ (three (0 : Fin 1) b n) ?_)).trans ?_
    · rw [Shape.rowMajor_val_three, Shape.rowMajor_val_two]; simp [three, two]
    refine (congrArg BitVec.toInt (extractStridedSlice_apply _ P h4 _ (pixIx k b n) ?_)).trans ?_
    · intro a; fin_cases a <;> simp [three, pixIx]
    have := hP (pixIx k b n)
    show (P (pixIx k b n)).toInt = ((P (pixIx k b n)).toNat : ℤ)
    rw [BitVec.toInt_eq_toNat_cond]
    omega

/-! ## The maps -/

theorem v13_at (b : Fin 4) (p : ℕ) : res_main_v13 (F := Ideal) V0 (three b ⟨p / 384 % 384, Nat.mod_lt _ (by decide)⟩ ⟨p % 384, Nat.mod_lt _ (by decide)⟩) = refA V0 (imgIx b p) := by
  unfold res_main_v13; exact img_read _ _ b p
theorem v109_at (b : Fin 4) (p : ℕ) : res_main_v109 (F := Ideal) V0 (three b ⟨p / 384 % 384, Nat.mod_lt _ (by decide)⟩ ⟨p % 384, Nat.mod_lt _ (by decide)⟩) = refA' V0 (imgIx b p) := by
  unfold res_main_v109; exact img_read _ _ b p

theorem map_z (A : Img.Idx → EReal) (h h1) (b : Fin 4) (p : Fin 147456) :
    shapeCast S4x147456 (shapeCast S4x384x384 A h) h1 (two b p) = (pixPt A (refK V0) b p.val).z :=
  (flat_read _ h1 _).trans (img_read A h b p.val)

theorem v32_at (b : Fin 4) (p : Fin 147456) : res_main_v32 (F := Ideal) V0 (two b p) = (pixPt (refA V0) (refK V0) b p.val).z := by
  unfold res_main_v32 res_main_v13; exact map_z V0 _ _ _ b p
theorem v128_at (b : Fin 4) (p : Fin 147456) : res_main_v128 (F := Ideal) V0 (two b p) = (pixPt (refA' V0) (refK V0) b p.val).z := by
  unfold res_main_v128 res_main_v109; exact map_z V0 _ _ _ b p

/-- A coordinate other than the depth, of its parts read at the pixel. -/
theorem coord_at (c u z f : FVec Ideal S4x384x384 .f32) (h) (b : Fin 4) (p : Fin 147456) (c0 u0 z0 f0 : EReal)
    (hc : c (three b ⟨p.val / 384 % 384, Nat.mod_lt _ (by decide)⟩ ⟨p.val % 384, Nat.mod_lt _ (by decide)⟩) = c0)
    (hu : u (three b ⟨p.val / 384 % 384, Nat.mod_lt _ (by decide)⟩ ⟨p.val % 384, Nat.mod_lt _ (by decide)⟩) = u0)
    (hz : z (three b ⟨p.val / 384 % 384, Nat.mod_lt _ (by decide)⟩ ⟨p.val % 384, Nat.mod_lt _ (by decide)⟩) = z0)
    (hf : f (three b ⟨p.val / 384 % 384, Nat.mod_lt _ (by decide)⟩ ⟨p.val % 384, Nat.mod_lt _ (by decide)⟩) = f0) :
    shapeCast S4x147456 (Host.divf (mulf (subf c u) z) f) h (two b p) = Ideal.div ((c0 - u0) * z0) f0 := by
  subst hc hu hz hf
  exact flat_read _ h _

theorem v30_at (b : Fin 4) (p : Fin 147456) : res_main_v30 (F := Ideal) V0 (two b p) = (pixPt (refA V0) (refK V0) b p.val).x := by
  unfold res_main_v30 res_main_v2
  exact coord_at _ _ _ _ _ b p _ _ _ _ ((col_read _ _ _ _ _).trans (iota_read _)) (cam_read _ 0 2 _ rfl _ _ _ _ _) (v13_at V0 b p.val)
    (cam_read _ 0 0 _ rfl _ _ _ _ _)
theorem v126_at (b : Fin 4) (p : Fin 147456) : res_main_v126 (F := Ideal) V0 (two b p) = (pixPt (refA' V0) (refK V0) b p.val).x := by
  unfold res_main_v126 res_main_v98
  exact coord_at _ _ _ _ _ b p _ _ _ _ ((col_read _ _ _ _ _).trans (iota_read _)) (cam_read _ 0 2 _ rfl _ _ _ _ _) (v109_at V0 b p.val)
    (cam_read _ 0 0 _ rfl _ _ _ _ _)

theorem row_word (p : Fin 147456) : p.val / 384 % 384 = p.val / 384 := by have := p.isLt; omega

theorem v31_at (b : Fin 4) (p : Fin 147456) : res_main_v31 (F := Ideal) V0 (two b p) = (pixPt (refA V0) (refK V0) b p.val).y := by
  unfold res_main_v31 res_main_v2
  exact coord_at _ _ _ _ _ b p _ _ _ _ (((row_read _ _ _ _ _).trans (iota_read _)).trans (congrArg (fun n : ℕ => ((n : ℝ) : EReal)) (row_word p))) (cam_read _ 1 2 _ rfl _ _ _ _ _) (v13_at V0 b p.val)
    (cam_read _ 0 0 _ rfl _ _ _ _ _)
theorem v127_at (b : Fin 4) (p : Fin 147456) : res_main_v127 (F := Ideal) V0 (two b p) = (pixPt (refA' V0) (refK V0) b p.val).y := by
  unfold res_main_v127 res_main_v98
  exact coord_at _ _ _ _ _ b p _ _ _ _ (((row_read _ _ _ _ _).trans (iota_read _)).trans (congrArg (fun n : ℕ => ((n : ℝ) : EReal)) (row_word p))) (cam_read _ 1 2 _ rfl _ _ _ _ _) (v109_at V0 b p.val)
    (cam_read _ 0 0 _ rfl _ _ _ _ _)

end Cert.Proof.Value

end
-- ==== Proof.Value.RefVal.lean ====
/-
  What the reference leaves: `total` of its arguments. Its arrays are read at a group, one stage after another, and its sums
  are then the sums over the groups.
-/
module

public import proofs.«01_k».proof.Proof.Value.RefMap
public import Idealize.ShloMosaic.Lib.IdealHost

@[expose] public section

set_option maxRecDepth 8192

noncomputable section

namespace Cert.Proof.Value

open Cert.ReferenceIdeal Cert.ReferenceIdeal.Gen Cert.ReferenceIdeal.Value
open Idealize.ShloMosaic Idealize.ShloMosaic.TcCoe

variable (V0 : Valuation τ sig (Elt Ideal)) (hP : ∀ j, (refP V0 j).toNat < 147456) (b : Fin 4) (n : Fin 29491)

/-- The three true points of a group, and the three predicted. -/
abbrev gt (k : Fin 3) : Pt := member (refA V0) (refK V0) (refP V0) k b n
abbrev pr (k : Fin 3) : Pt := member (refA' V0) (refK V0) (refP V0) k b n

/-- An array's entry, as a number; a mask's, as a bit. -/
def rd (x : FVec Ideal S4x29491 .f32) (j : S4x29491.Idx) : EReal := x j
def rdI (x : IVec S4x29491 1) (j : S4x29491.Idx) : BitVec 1 := x j

include hP

/-! ## The points -/

theorem v39_at : res_main_v39 (F := Ideal) V0 (two b n) = (gt V0 b n 0).x := by
  unfold res_main_v39 res_main_v29
  exact (gather_read _ 0 (refP V0) hP _ rfl _ _ _ _ _ _ _ b n).trans (v30_at V0 b _)
theorem v46_at : res_main_v46 (F := Ideal) V0 (two b n) = (gt V0 b n 0).y := by
  unfold res_main_v46 res_main_v29
  exact (gather_read _ 0 (refP V0) hP _ rfl _ _ _ _ _ _ _ b n).trans (v31_at V0 b _)
theorem v53_at : res_main_v53 (F := Ideal) V0 (two b n) = (gt V0 b n 0).z := by
  unfold res_main_v53 res_main_v29
  exact (gather_read _ 0 (refP V0) hP _ rfl _ _ _ _ _ _ _ b n).trans (v32_at V0 b _)
theorem v60_at : res_main_v60 (F := Ideal) V0 (two b n) = (gt V0 b n 1).x := by
  unfold res_main_v60 res_main_v29
  exact (gather_read _ 1 (refP V0) hP _ rfl _ _ _ _ _ _ _ b n).trans (v30_at V0 b _)
theorem v67_at : res_main_v67 (F := Ideal) V0 (two b n) = (gt V0 b n 1).y := by
  unfold res_main_v67 res_main_v29
  exact (gather_read _ 1 (refP V0) hP _ rfl _ _ _ _ _ _ _ b n).trans (v31_at V0 b _)
theorem v74_at : res_main_v74 (F := Ideal) V0 (two b n) = (gt V0 b n 1).z := by
  unfold res_main_v74 res_main_v29
  exact (gather_read _ 1 (refP V0) hP _ rfl _ _ _ _ _ _ _ b n).trans (v32_at V0 b _)
theorem v81_at : res_main_v81 (F := Ideal) V0 (two b n) = (gt V0 b n 2).x := by
  unfold res_main_v81 res_main_v29
  exact (gather_read _ 2 (refP V0) hP _ rfl _ _ _ _ _ _ _ b n).trans (v30_at V0 b _)
theorem v88_at : res_main_v88 (F := Ideal) V0 (two b n) = (gt V0 b n 2).y := by
  unfold res_main_v88 res_main_v29
  exact (gather_read _ 2 (refP V0) hP _ rfl _ _ _ _ _ _ _ b n).trans (v31_at V0 b _)
theorem v95_at : res_main_v95 (F := Ideal) V0 (two b n) = (gt V0 b n 2).z := by
  unfold res_main_v95 res_main_v29
  exact (gather_read _ 2 (refP V0) hP _ rfl _ _ _ _ _ _ _ b n).trans (v32_at V0 b _)
theorem v149_at : res_main_v149 (F := Ideal) V0 (two b n) = (pr V0 b n 0).z := by
  unfold res_main_v149 res_main_v125
  exact (gather_read _ 0 (refP V0) hP _ rfl _ _ _ _ _ _ _ b n).trans (v128_at V0 b _)
theorem v170_at : res_main_v170 (F := Ideal) V0 (two b n) = (pr V0 b n 1).z := by
  unfold res_main_v170 res_main_v125
  exact (gather_read _ 1 (refP V0) hP _ rfl _ _ _ _ _ _ _ b n).trans (v128_at V0 b _)
theorem v191_at : res_main_v191 (F := Ideal) V0 (two b n) = (pr V0 b n 2).z := by
  unfold res_main_v191 res_main_v125
  exact (gather_read _ 2 (refP V0) hP _ rfl _ _ _ _ _ _ _ b n).trans (v128_at V0 b _)

/-! ## The differences of the true points -/

theorem v192_at : res_main_v192 (F := Ideal) V0 (two b n) = ((gt V0 b n 1).sub (gt V0 b n 0)).x := by
  unfold res_main_v192
  exact congrArg₂ (fun p q : EReal => p - q) (v60_at V0 hP b n) (v39_at V0 hP b n)
theorem v193_at : res_main_v193 (F := Ideal) V0 (two b n) = ((gt V0 b n 1).sub (gt V0 b n 0)).y := by
  unfold res_main_v193
  exact congrArg₂ (fun p q : EReal => p - q) (v67_at V0 hP b n) (v46_at V0 hP b n)
theorem v194_at : res_main_v194 (F := Ideal) V0 (two b n) = ((gt V0 b n 1).sub (gt V0 b n 0)).z := by
  unfold res_main_v194
  exact congrArg₂ (fun p q : EReal => p - q) (v74_at V0 hP b n) (v53_at V0 hP b n)
theorem v195_at : res_main_v195 (F := Ideal) V0 (two b n) = ((gt V0 b n 2).sub (gt V0 b n 0)).x := by
  unfold res_main_v195
  exact congrArg₂ (fun p q : EReal => p - q) (v81_at V0 hP b n) (v39_at V0 hP b n)
theorem v196_at : res_main_v196 (F := Ideal) V0 (two b n) = ((gt V0 b n 2).sub (gt V0 b n 0)).y := by
  unfold res_main_v196
  exact congrArg₂ (fun p q : EReal => p - q) (v88_at V0 hP b n) (v46_at V0 hP b n)
theorem v197_at : res_main_v197 (F := Ideal) V0 (two b n) = ((gt V0 b n 2).sub (gt V0 b n 0)).z := by
  unfold res_main_v197
  exact congrArg₂ (fun p q : EReal => p - q) (v95_at V0 hP b n) (v53_at V0 hP b n)
theorem v198_at : res_main_v198 (F := Ideal) V0 (two b n) = ((gt V0 b n 2).sub (gt V0 b n 1)).x := by
  unfold res_main_v198
  exact congrArg₂ (fun p q : EReal => p - q) (v81_at V0 hP b n) (v60_at V0 hP b n)
theorem v199_at : res_main_v199 (F := Ideal) V0 (two b n) = ((gt V0 b n 2).sub (gt V0 b n 1)).y := by
  unfold res_main_v199
  exact congrArg₂ (fun p q : EReal => p - q) (v88_at V0 hP b n) (v67_at V0 hP b n)
theorem v200_at : res_main_v200 (F := Ideal) V0 (two b n) = ((gt V0 b n 2).sub (gt V0 b n 1)).z := by
  unfold res_main_v200
  exact congrArg₂ (fun p q : EReal => p - q) (v95_at V0 hP b n) (v74_at V0 hP b n)
theorem v456_at : res_main_v456 (F := Ideal) V0 (two b n) = ((gt V0 b n 1).sub (gt V0 b n 0)).x := by
  unfold res_main_v456
  exact congrArg₂ (fun p q : EReal => p - q) (v60_at V0 hP b n) (v39_at V0 hP b n)
theorem v457_at : res_main_v457 (F := Ideal) V0 (two b n) = ((gt V0 b n 1).sub (gt V0 b n 0)).y := by
  unfold res_main_v457
  exact congrArg₂ (fun p q : EReal => p - q) (v67_at V0 hP b n) (v46_at V0 hP b n)
theorem v458_at : res_main_v458 (F := Ideal) V0 (two b n) = ((gt V0 b n 1).sub (gt V0 b n 0)).z := by
  unfold res_main_v458
  exact congrArg₂ (fun p q : EReal => p - q) (v74_at V0 hP b n) (v53_at V0 hP b n)
theorem v459_at : res_main_v459 (F := Ideal) V0 (two b n) = ((gt V0 b n 2).sub (gt V0 b n 0)).x := by
  unfold res_main_v459
  exact congrArg₂ (fun p q : EReal => p - q) (v81_at V0 hP b n) (v39_at V0 hP b n)
theorem v460_at : res_main_v460 (F := Ideal) V0 (two b n) = ((gt V0 b n 2).sub (gt V0 b n 0)).y := by
  unfold res_main_v460
  exact congrArg₂ (fun p q : EReal => p - q) (v88_at V0 hP b n) (v46_at V0 hP b n)
theorem v461_at : res_main_v461 (F := Ideal) V0 (two b n) = ((gt V0 b n 2).sub (gt V0 b n 0)).z := by
  unfold res_main_v461
  exact congrArg₂ (fun p q : EReal => p - q) (v95_at V0 hP b n) (v53_at V0 hP b n)

/-! ## Lengths and cosines -/

theorem v206_at : res_main_v206 (F := Ideal) V0 (two b n) = nrm ((gt V0 b n 1).sub (gt V0 b n 0)) := by
  unfold res_main_v206
  show nrm ⟨rd (res_main_v192 V0) (two b n), rd (res_main_v193 V0) (two b n), rd (res_main_v194 V0) (two b n)⟩ = _
  unfold rd
  rw [v192_at V0 hP, v193_at V0 hP, v194_at V0 hP]
theorem v212_at : res_main_v212 (F := Ideal) V0 (two b n) = nrm ((gt V0 b n 2).sub (gt V0 b n 0)) := by
  unfold res_main_v212
  show nrm ⟨rd (res_main_v195 V0) (two b n), rd (res_main_v196 V0) (two b n), rd (res_main_v197 V0) (two b n)⟩ = _
  unfold rd
  rw [v195_at V0 hP, v196_at V0 hP, v197_at V0 hP]
theorem v218_at : res_main_v218 (F := Ideal) V0 (two b n) = nrm ((gt V0 b n 2).sub (gt V0 b n 1)) := by
  unfold res_main_v218
  show nrm ⟨rd (res_main_v198 V0) (two b n), rd (res_main_v199 V0) (two b n), rd (res_main_v200 V0) (two b n)⟩ = _
  unfold rd
  rw [v198_at V0 hP, v199_at V0 hP, v200_at V0 hP]
theorem v228_at : res_main_v228 (F := Ideal) V0 (two b n) = Ideal.div (dot ((gt V0 b n 1).sub (gt V0 b n 0)) ((gt V0 b n 1).sub (gt V0 b n 0))) (den ((gt V0 b n 1).sub (gt V0 b n 0)) ((gt V0 b n 1).sub (gt V0 b n 0))) := by
  unfold res_main_v228
  show Ideal.div (dot ⟨rd (res_main_v192 V0) (two b n), rd (res_main_v193 V0) (two b n), rd (res_main_v194 V0) (two b n)⟩ ⟨rd (res_main_v192 V0) (two b n), rd (res_main_v193 V0) (two b n), rd (res_main_v194 V0) (two b n)⟩)
    (rd (res_main_v206 V0) (two b n) * rd (res_main_v206 V0) (two b n) + eps) = _
  unfold rd
  rw [v192_at V0 hP, v193_at V0 hP, v194_at V0 hP, v206_at V0 hP]
  rfl
theorem v245_at : res_main_v245 (F := Ideal) V0 (two b n) = Ideal.div (dot ((gt V0 b n 1).sub (gt V0 b n 0)) ((gt V0 b n 2).sub (gt V0 b n 0))) (den ((gt V0 b n 1).sub (gt V0 b n 0)) ((gt V0 b n 2).sub (gt V0 b n 0))) := by
  unfold res_main_v245
  show Ideal.div (dot ⟨rd (res_main_v192 V0) (two b n), rd (res_main_v193 V0) (two b n), rd (res_main_v194 V0) (two b n)⟩ ⟨rd (res_main_v195 V0) (two b n), rd (res_main_v196 V0) (two b n), rd (res_main_v197 V0) (two b n)⟩)
    (rd (res_main_v206 V0) (two b n) * rd (res_main_v212 V0) (two b n) + eps) = _
  unfold rd
  rw [v192_at V0 hP, v193_at V0 hP, v194_at V0 hP, v195_at V0 hP, v196_at V0 hP, v197_at V0 hP, v206_at V0 hP, v212_at V0 hP]
  rfl
theorem v262_at : res_main_v262 (F := Ideal) V0 (two b n) = Ideal.div (dot ((gt V0 b n 1).sub (gt V0 b n 0)) ((gt V0 b n 2).sub (gt V0 b n 1))) (den ((gt V0 b n 1).sub (gt V0 b n 0)) ((gt V0 b n 2).sub (gt V0 b n 1))) := by
  unfold res_main_v262
  show Ideal.div (dot ⟨rd (res_main_v192 V0) (two b n), rd (res_main_v193 V0) (two b n), rd (res_main_v194 V0) (two b n)⟩ ⟨rd (res_main_v198 V0) (two b n), rd (res_main_v199 V0) (two b n), rd (res_main_v200 V0) (two b n)⟩)
    (rd (res_main_v206 V0) (two b n) * rd (res_main_v218 V0) (two b n) + eps) = _
  unfold rd
  rw [v192_at V0 hP, v193_at V0 hP, v194_at V0 hP, v198_at V0 hP, v199_at V0 hP, v200_at V0 hP, v206_at V0 hP, v218_at V0 hP]
  rfl
theorem v279_at : res_main_v279 (F := Ideal) V0 (two b n) = Ideal.div (dot ((gt V0 b n 2).sub (gt V0 b n 0)) ((gt V0 b n 1).sub (gt V0 b n 0))) (den ((gt V0 b n 2).sub (gt V0 b n 0)) ((gt V0 b n 1).sub (gt V0 b n 0))) := by
  unfold res_main_v279
  show Ideal.div (dot ⟨rd (res_main_v195 V0) (two b n), rd (res_main_v196 V0) (two b n), rd (res_main_v197 V0) (two b n)⟩ ⟨rd (res_main_v192 V0) (two b n), rd (res_main_v193 V0) (two b n), rd (res_main_v194 V0) (two b n)⟩)
    (rd (res_main_v212 V0) (two b n) * rd (res_main_v206 V0) (two b n) + eps) = _
  unfold rd
  rw [v195_at V0 hP, v196_at V0 hP, v197_at V0 hP, v192_at V0 hP, v193_at V0 hP, v194_at V0 hP, v212_at V0 hP, v206_at V0 hP]
  rfl
theorem v296_at : res_main_v296 (F := Ideal) V0 (two b n) = Ideal.div (dot ((gt V0 b n 2).sub (gt V0 b n 0)) ((gt V0 b n 2).sub (gt V0 b n 0))) (den ((gt V0 b n 2).sub (gt V0 b n 0)) ((gt V0 b n 2).sub (gt V0 b n 0))) := by
  unfold res_main_v296
  show Ideal.div (dot ⟨rd (res_main_v195 V0) (two b n), rd (res_main_v196 V0) (two b n), rd (res_main_v197 V0) (two b n)⟩ ⟨rd (res_main_v195 V0) (two b n), rd (res_main_v196 V0) (two b n), rd (res_main_v197 V0) (two b n)⟩)
    (rd (res_main_v212 V0) (two b n) * rd (res_main_v212 V0) (two b n) + eps) = _
  unfold rd
  rw [v195_at V0 hP, v196_at V0 hP, v197_at V0 hP, v212_at V0 hP]
  rfl
theorem v313_at : res_main_v313 (F := Ideal) V0 (two b n) = Ideal.div (dot ((gt V0 b n 2).sub (gt V0 b n 0)) ((gt V0 b n 2).sub (gt V0 b n 1))) (den ((gt V0 b n 2).sub (gt V0 b n 0)) ((gt V0 b n 2).sub (gt V0 b n 1))) := by
  unfold res_main_v313
  show Ideal.div (dot ⟨rd (res_main_v195 V0) (two b n), rd (res_main_v196 V0) (two b n), rd (res_main_v197 V0) (two b n)⟩ ⟨rd (res_main_v198 V0) (two b n), rd (res_main_v199 V0) (two b n), rd (res_main_v200 V0) (two b n)⟩)
    (rd (res_main_v212 V0) (two b n) * rd (res_main_v218 V0) (two b n) + eps) = _
  unfold rd
  rw [v195_at V0 hP, v196_at V0 hP, v197_at V0 hP, v198_at V0 hP, v199_at V0 hP, v200_at V0 hP, v212_at V0 hP, v218_at V0 hP]
  rfl
theorem v330_at : res_main_v330 (F := Ideal) V0 (two b n) = Ideal.div (dot ((gt V0 b n 2).sub (gt V0 b n 1)) ((gt V0 b n 1).sub (gt V0 b n 0))) (den ((gt V0 b n 2).sub (gt V0 b n 1)) ((gt V0 b n 1).sub (gt V0 b n 0))) := by
  unfold res_main_v330
  show Ideal.div (dot ⟨rd (res_main_v198 V0) (two b n), rd (res_main_v199 V0) (two b n), rd (res_main_v200 V0) (two b n)⟩ ⟨rd (res_main_v192 V0) (two b n), rd (res_main_v193 V0) (two b n), rd (res_main_v194 V0) (two b n)⟩)
    (rd (res_main_v218 V0) (two b n) * rd (res_main_v206 V0) (two b n) + eps) = _
  unfold rd
  rw [v198_at V0 hP, v199_at V0 hP, v200_at V0 hP, v192_at V0 hP, v193_at V0 hP, v194_at V0 hP, v218_at V0 hP, v206_at V0 hP]
  rfl
theorem v347_at : res_main_v347 (F := Ideal) V0 (two b n) = Ideal.div (dot ((gt V0 b n 2).sub (gt V0 b n 1)) ((gt V0 b n 2).sub (gt V0 b n 0))) (den ((gt V0 b n 2).sub (gt V0 b n 1)) ((gt V0 b n 2).sub (gt V0 b n 0))) := by
  unfold res_main_v347
  show Ideal.div (dot ⟨rd (res_main_v198 V0) (two b n), rd (res_main_v199 V0) (two b n), rd (res_main_v200 V0) (two b n)⟩ ⟨rd (res_main_v195 V0) (two b n), rd (res_main_v196 V0) (two b n), rd (res_main_v197 V0) (two b n)⟩)
    (rd (res_main_v218 V0) (two b n) * rd (res_main_v212 V0) (two b n) + eps) = _
  unfold rd
  rw [v198_at V0 hP, v199_at V0 hP, v200_at V0 hP, v195_at V0 hP, v196_at V0 hP, v197_at V0 hP, v218_at V0 hP, v212_at V0 hP]
  rfl
theorem v364_at : res_main_v364 (F := Ideal) V0 (two b n) = Ideal.div (dot ((gt V0 b n 2).sub (gt V0 b n 1)) ((gt V0 b n 2).sub (gt V0 b n 1))) (den ((gt V0 b n 2).sub (gt V0 b n 1)) ((gt V0 b n 2).sub (gt V0 b n 1))) := by
  unfold res_main_v364
  show Ideal.div (dot ⟨rd (res_main_v198 V0) (two b n), rd (res_main_v199 V0) (two b n), rd (res_main_v200 V0) (two b n)⟩ ⟨rd (res_main_v198 V0) (two b n), rd (res_main_v199 V0) (two b n), rd (res_main_v200 V0) (two b n)⟩)
    (rd (res_main_v218 V0) (two b n) * rd (res_main_v218 V0) (two b n) + eps) = _
  unfold rd
  rw [v198_at V0 hP, v199_at V0 hP, v200_at V0 hP, v218_at V0 hP]
  rfl

/-! ## The weight -/

theorem v438_at : res_main_v438 (F := Ideal) V0 (two b n)
    = (((anyR ((gt V0 b n 1).sub (gt V0 b n 0)).x ((gt V0 b n 2).sub (gt V0 b n 0)).x ((gt V0 b n 2).sub (gt V0 b n 1)).x &&& anyR ((gt V0 b n 1).sub (gt V0 b n 0)).y ((gt V0 b n 2).sub (gt V0 b n 0)).y ((gt V0 b n 2).sub (gt V0 b n 1)).y)
        &&& anyR ((gt V0 b n 1).sub (gt V0 b n 0)).z ((gt V0 b n 2).sub (gt V0 b n 0)).z ((gt V0 b n 2).sub (gt V0 b n 1)).z) ||| cosR ((gt V0 b n 1).sub (gt V0 b n 0)) ((gt V0 b n 2).sub (gt V0 b n 0)) ((gt V0 b n 2).sub (gt V0 b n 1))) := by
  unfold res_main_v438
  show (((anyR (rd (res_main_v192 V0) (two b n)) (rd (res_main_v195 V0) (two b n)) (rd (res_main_v198 V0) (two b n)) &&& anyR (rd (res_main_v193 V0) (two b n)) (rd (res_main_v196 V0) (two b n)) (rd (res_main_v199 V0) (two b n))) &&& anyR (rd (res_main_v194 V0) (two b n)) (rd (res_main_v197 V0) (two b n)) (rd (res_main_v200 V0) (two b n)))
    ||| sgt (0#32 + (ext (Ideal.cmp .ogt (rd (res_main_v228 V0) (two b n)) dc) + ext (Ideal.cmp .olt (rd (res_main_v228 V0) (two b n)) ndc)) + (ext (Ideal.cmp .ogt (rd (res_main_v245 V0) (two b n)) dc) + ext (Ideal.cmp .olt (rd (res_main_v245 V0) (two b n)) ndc)) + (ext (Ideal.cmp .ogt (rd (res_main_v262 V0) (two b n)) dc) + ext (Ideal.cmp .olt (rd (res_main_v262 V0) (two b n)) ndc)) + (ext (Ideal.cmp .ogt (rd (res_main_v279 V0) (two b n)) dc) + ext (Ideal.cmp .olt (rd (res_main_v279 V0) (two b n)) ndc)) + (ext (Ideal.cmp .ogt (rd (res_main_v296 V0) (two b n)) dc) + ext (Ideal.cmp .olt (rd (res_main_v296 V0) (two b n)) ndc)) + (ext (Ideal.cmp .ogt (rd (res_main_v313 V0) (two b n)) dc) + ext (Ideal.cmp .olt (rd (res_main_v313 V0) (two b n)) ndc)) + (ext (Ideal.cmp .ogt (rd (res_main_v330 V0) (two b n)) dc) + ext (Ideal.cmp .olt (rd (res_main_v330 V0) (two b n)) ndc)) + (ext (Ideal.cmp .ogt (rd (res_main_v347 V0) (two b n)) dc) + ext (Ideal.cmp .olt (rd (res_main_v347 V0) (two b n)) ndc)) + (ext (Ideal.cmp .ogt (rd (res_main_v364 V0) (two b n)) dc) + ext (Ideal.cmp .olt (rd (res_main_v364 V0) (two b n)) ndc))) 3#32) = _
  unfold rd
  rw [v192_at V0 hP, v193_at V0 hP, v194_at V0 hP, v195_at V0 hP, v196_at V0 hP, v197_at V0 hP, v198_at V0 hP, v199_at V0 hP, v200_at V0 hP, v228_at V0 hP, v245_at V0 hP, v262_at V0 hP, v279_at V0 hP, v296_at V0 hP, v313_at V0 hP, v330_at V0 hP, v347_at V0 hP, v364_at V0 hP]
  rfl

theorem v522_at : res_main_v522 (F := Ideal) V0 (two b n) = weight (refA V0) (refK V0) (refP V0) b n := by
  unfold res_main_v522
  show asR (padR (rd (res_main_v53 V0) (two b n)) (rd (res_main_v74 V0) (two b n)) (rd (res_main_v95 V0) (two b n)) &&& ~~~ (rdI (res_main_v438 V0) (two b n))) = _
  unfold rd rdI
  rw [v53_at V0 hP, v74_at V0 hP, v95_at V0 hP, v438_at V0 hP]
  rfl

/-! ## The true normal -/

abbrev tf : Pt := faceOf (gt V0 b n 0) (gt V0 b n 1) (gt V0 b n 2)
abbrev pf : Pt := predOf (pr V0 b n 0) (pr V0 b n 1) (pr V0 b n 2)
abbrev fx (k : Fin 3) : Pt := fix (pr V0 b n 0) (pr V0 b n 1) (pr V0 b n 2) (pr V0 b n k)

theorem v464_at : res_main_v464 (F := Ideal) V0 (two b n) = (tf V0 b n).x := by
  unfold res_main_v464
  show (rd (res_main_v457 V0) (two b n)) * (rd (res_main_v461 V0) (two b n)) - (rd (res_main_v458 V0) (two b n)) * (rd (res_main_v460 V0) (two b n)) = _
  unfold rd
  rw [v457_at V0 hP, v461_at V0 hP, v458_at V0 hP, v460_at V0 hP]
  rfl
theorem v467_at : res_main_v467 (F := Ideal) V0 (two b n) = (tf V0 b n).y := by
  unfold res_main_v467
  show (rd (res_main_v458 V0) (two b n)) * (rd (res_main_v459 V0) (two b n)) - (rd (res_main_v456 V0) (two b n)) * (rd (res_main_v461 V0) (two b n)) = _
  unfold rd
  rw [v458_at V0 hP, v459_at V0 hP, v456_at V0 hP, v461_at V0 hP]
  rfl
theorem v470_at : res_main_v470 (F := Ideal) V0 (two b n) = (tf V0 b n).z := by
  unfold res_main_v470
  show (rd (res_main_v456 V0) (two b n)) * (rd (res_main_v460 V0) (two b n)) - (rd (res_main_v457 V0) (two b n)) * (rd (res_main_v459 V0) (two b n)) = _
  unfold rd
  rw [v456_at V0 hP, v460_at V0 hP, v457_at V0 hP, v459_at V0 hP]
  rfl
theorem v476_at : res_main_v476 (F := Ideal) V0 (two b n) = nrm (tf V0 b n) := by
  unfold res_main_v476
  show nrm ⟨(rd (res_main_v464 V0) (two b n)), (rd (res_main_v467 V0) (two b n)), (rd (res_main_v470 V0) (two b n))⟩ = _
  unfold rd
  rw [v464_at V0 hP, v467_at V0 hP, v470_at V0 hP]
theorem v482_at : res_main_v482 (F := Ideal) V0 (two b n) = lenR (tf V0 b n) := by
  unfold res_main_v482
  show (rd (res_main_v476 V0) (two b n)) + asR (Ideal.cmp .oeq (rd (res_main_v476 V0) (two b n)) nil) * eps = _
  unfold rd
  rw [v476_at V0 hP]
  rfl

/-! ## The predicted normal -/

theorem v442_at : res_main_v442 (F := Ideal) V0 (two b n) = Ideal.cmp .oeq (pr V0 b n 0).z nil := by
  unfold res_main_v442
  exact congrArg (fun z : EReal => Ideal.cmp .oeq z nil) (v149_at V0 hP b n)
theorem v444_at : res_main_v444 (F := Ideal) V0 (two b n) = Ideal.cmp .oeq (pr V0 b n 1).z nil := by
  unfold res_main_v444
  exact congrArg (fun z : EReal => Ideal.cmp .oeq z nil) (v170_at V0 hP b n)
theorem v446_at : res_main_v446 (F := Ideal) V0 (two b n) = Ideal.cmp .oeq (pr V0 b n 2).z nil := by
  unfold res_main_v446
  exact congrArg (fun z : EReal => Ideal.cmp .oeq z nil) (v191_at V0 hP b n)

omit hP in
theorem pick_at (c : IVec S4x29491 1) (x : FVec Ideal S4x29491 .f32) (j : S4x29491.Idx) (c0 : BitVec 1) (x0 : EReal) (hc : c j = c0) (hx : x j = x0) (h) :
    select c (broadcastInDim S4x29491 ![] h (id (constant S_ .f32 0x38D1B717#32))) x j = if c0 = 1 then tiny else x0 := by
  subst hc hx; rfl

theorem v447_at : res_main_v447 (F := Ideal) V0 (two b n) = (fx V0 b n 0).x := by
  unfold res_main_v447 res_main_v125
  exact pick_at _ _ _ _ _ (v442_at V0 hP b n) ((gather_read _ 0 (refP V0) hP _ rfl _ _ _ _ _ _ _ b n).trans (v126_at V0 b _)) _
theorem v448_at : res_main_v448 (F := Ideal) V0 (two b n) = (fx V0 b n 0).y := by
  unfold res_main_v448 res_main_v125
  exact pick_at _ _ _ _ _ (v444_at V0 hP b n) ((gather_read _ 0 (refP V0) hP _ rfl _ _ _ _ _ _ _ b n).trans (v127_at V0 b _)) _
theorem v449_at : res_main_v449 (F := Ideal) V0 (two b n) = (fx V0 b n 0).z := by
  unfold res_main_v449
  exact pick_at _ _ _ _ _ (v446_at V0 hP b n) (v149_at V0 hP b n) _
theorem v486_at : res_main_v486 (F := Ideal) V0 (two b n) = ((fx V0 b n 1).sub (fx V0 b n 0)).x := by
  unfold res_main_v486 res_main_v125
  exact congrArg₂ (fun p q : EReal => p - q) (pick_at _ _ _ _ _ (v442_at V0 hP b n) ((gather_read _ 1 (refP V0) hP _ rfl _ _ _ _ _ _ _ b n).trans (v126_at V0 b _)) _) (v447_at V0 hP b n)
theorem v487_at : res_main_v487 (F := Ideal) V0 (two b n) = ((fx V0 b n 1).sub (fx V0 b n 0)).y := by
  unfold res_main_v487 res_main_v125
  exact congrArg₂ (fun p q : EReal => p - q) (pick_at _ _ _ _ _ (v444_at V0 hP b n) ((gather_read _ 1 (refP V0) hP _ rfl _ _ _ _ _ _ _ b n).trans (v127_at V0 b _)) _) (v448_at V0 hP b n)
theorem v488_at : res_main_v488 (F := Ideal) V0 (two b n) = ((fx V0 b n 1).sub (fx V0 b n 0)).z := by
  unfold res_main_v488
  exact congrArg₂ (fun p q : EReal => p - q) (pick_at _ _ _ _ _ (v446_at V0 hP b n) (v170_at V0 hP b n) _) (v449_at V0 hP b n)
theorem v489_at : res_main_v489 (F := Ideal) V0 (two b n) = ((fx V0 b n 2).sub (fx V0 b n 0)).x := by
  unfold res_main_v489 res_main_v125
  exact congrArg₂ (fun p q : EReal => p - q) (pick_at _ _ _ _ _ (v442_at V0 hP b n) ((gather_read _ 2 (refP V0) hP _ rfl _ _ _ _ _ _ _ b n).trans (v126_at V0 b _)) _) (v447_at V0 hP b n)
theorem v490_at : res_main_v490 (F := Ideal) V0 (two b n) = ((fx V0 b n 2).sub (fx V0 b n 0)).y := by
  unfold res_main_v490 res_main_v125
  exact congrArg₂ (fun p q : EReal => p - q) (pick_at _ _ _ _ _ (v444_at V0 hP b n) ((gather_read _ 2 (refP V0) hP _ rfl _ _ _ _ _ _ _ b n).trans (v127_at V0 b _)) _) (v448_at V0 hP b n)
theorem v491_at : res_main_v491 (F := Ideal) V0 (two b n) = ((fx V0 b n 2).sub (fx V0 b n 0)).z := by
  unfold res_main_v491
  exact congrArg₂ (fun p q : EReal => p - q) (pick_at _ _ _ _ _ (v446_at V0 hP b n) (v191_at V0 hP b n) _) (v449_at V0 hP b n)
theorem v494_at : res_main_v494 (F := Ideal) V0 (two b n) = (pf V0 b n).x := by
  unfold res_main_v494
  show (rd (res_main_v487 V0) (two b n)) * (rd (res_main_v491 V0) (two b n)) - (rd (res_main_v488 V0) (two b n)) * (rd (res_main_v490 V0) (two b n)) = _
  unfold rd
  rw [v487_at V0 hP, v491_at V0 hP, v488_at V0 hP, v490_at V0 hP]
  rfl
theorem v497_at : res_main_v497 (F := Ideal) V0 (two b n) = (pf V0 b n).y := by
  unfold res_main_v497
  show (rd (res_main_v488 V0) (two b n)) * (rd (res_main_v489 V0) (two b n)) - (rd (res_main_v486 V0) (two b n)) * (rd (res_main_v491 V0) (two b n)) = _
  unfold rd
  rw [v488_at V0 hP, v489_at V0 hP, v486_at V0 hP, v491_at V0 hP]
  rfl
theorem v500_at : res_main_v500 (F := Ideal) V0 (two b n) = (pf V0 b n).z := by
  unfold res_main_v500
  show (rd (res_main_v486 V0) (two b n)) * (rd (res_main_v490 V0) (two b n)) - (rd (res_main_v487 V0) (two b n)) * (rd (res_main_v489 V0) (two b n)) = _
  unfold rd
  rw [v486_at V0 hP, v490_at V0 hP, v487_at V0 hP, v489_at V0 hP]
  rfl
theorem v506_at : res_main_v506 (F := Ideal) V0 (two b n) = nrm (pf V0 b n) := by
  unfold res_main_v506
  show nrm ⟨(rd (res_main_v494 V0) (two b n)), (rd (res_main_v497 V0) (two b n)), (rd (res_main_v500 V0) (two b n))⟩ = _
  unfold rd
  rw [v494_at V0 hP, v497_at V0 hP, v500_at V0 hP]
theorem v512_at : res_main_v512 (F := Ideal) V0 (two b n) = lenR (pf V0 b n) := by
  unfold res_main_v512
  show (rd (res_main_v506 V0) (two b n)) + asR (Ideal.cmp .oeq (rd (res_main_v506 V0) (two b n)) nil) * eps = _
  unfold rd
  rw [v506_at V0 hP]
  rfl

/-! ## The terms and their sums -/

omit hP in
/-- One coordinate's part of a group's term. -/
theorem part_at (a la p lp w : FVec Ideal S4x29491 .f32) (j : S4x29491.Idx) :
    mulf (Host.absf (subf (Host.divf a la) (Host.divf p lp))) w j = gone (Ideal.div (a j) (la j)) (Ideal.div (p j) (lp j)) * w j := rfl

omit hP in
theorem sum_groups (x : FVec Ideal S4x29491 .f32) (i : S_.Idx) :
    Host.reduceAdd x (constant (F := Ideal) S_ .f32 0x00000000#32) reducesTo_S4x29491_S_d0_1 h_S_ i = ∑ b : Fin 4, ∑ n : Fin 29491, x (two b n) := by
  have e : (Finset.univ.filter fun j : S4x29491.Idx => reducesTo_S4x29491_S_d0_1.drop j = i) = Finset.univ :=
    Finset.filter_true_of_mem fun j _ => funext fun a => a.elim0
  have z : Ideal.ofBits .f32 0x00000000#32 = 0 := Ideal.ofBits_zero .f32
  show Ideal.ofBits .f32 0x00000000#32 + ∑ j ∈ Finset.univ.filter (fun j : S4x29491.Idx => reducesTo_S4x29491_S_d0_1.drop j = i), x j = _
  rw [e, z, zero_add]
  exact sum_two x

theorem part_x : mulf (Host.absf (subf (Host.divf (res_main_v464 (F := Ideal) V0) (res_main_v482 V0)) (Host.divf (res_main_v494 V0) (res_main_v512 V0))))
      (res_main_v522 V0) (two b n) = gone (unitR (tf V0 b n)).x (unitR (pf V0 b n)).x * weight (refA V0) (refK V0) (refP V0) b n := by
  rw [part_at, v464_at V0 hP, v482_at V0 hP, v494_at V0 hP, v512_at V0 hP, v522_at V0 hP]
  rfl
theorem part_y : mulf (Host.absf (subf (Host.divf (res_main_v467 (F := Ideal) V0) (res_main_v482 V0)) (Host.divf (res_main_v497 V0) (res_main_v512 V0))))
      (res_main_v522 V0) (two b n) = gone (unitR (tf V0 b n)).y (unitR (pf V0 b n)).y * weight (refA V0) (refK V0) (refP V0) b n := by
  rw [part_at, v467_at V0 hP, v482_at V0 hP, v497_at V0 hP, v512_at V0 hP, v522_at V0 hP]
  rfl
theorem part_z : mulf (Host.absf (subf (Host.divf (res_main_v470 (F := Ideal) V0) (res_main_v482 V0)) (Host.divf (res_main_v500 V0) (res_main_v512 V0))))
      (res_main_v522 V0) (two b n) = gone (unitR (tf V0 b n)).z (unitR (pf V0 b n)).z * weight (refA V0) (refK V0) (refP V0) b n := by
  rw [part_at, v470_at V0 hP, v482_at V0 hP, v500_at V0 hP, v512_at V0 hP, v522_at V0 hP]
  rfl

omit hP in
theorem total_at (x y z t : FVec Ideal S_ .f32) (i : S_.Idx) (X Y Z T : EReal) (hx : x i = X) (hy : y i = Y) (hz : z i = Z) (ht : t i = T) :
    Host.divf (addf (addf x y) z) (addf (mulf t (constant S_ .f32 0x40400000#32)) (constant S_ .f32 0x358637BD#32)) i
      = Ideal.div (X + Y + Z) (T * Ideal.ofBits .f32 0x40400000#32 + eps) := by
  subst hx hy hz ht; rfl

omit hP in
/-- Three weighted sums are the weighted sum of the three, each weight being nought or one. -/
theorem join_sums (p q r w : Fin 4 → Fin 29491 → EReal) (hw : ∀ b n, w b n = 0 ∨ w b n = 1) :
    ((∑ b, ∑ n, p b n * w b n) + (∑ b, ∑ n, q b n * w b n)) + (∑ b, ∑ n, r b n * w b n)
      = ∑ b, ∑ n, (p b n + q b n + r b n) * w b n := by
  rw [← Finset.sum_add_distrib, ← Finset.sum_add_distrib]
  refine Finset.sum_congr rfl fun b _ => ?_
  rw [← Finset.sum_add_distrib, ← Finset.sum_add_distrib]
  refine Finset.sum_congr rfl fun n _ => ?_
  rw [add_mul_bit _ _ _ (hw b n), add_mul_bit _ _ _ (hw b n)]

theorem reference_eq :
    (Host.divf (addf (addf (Host.reduceAdd (mulf (Host.absf (subf (Host.divf (res_main_v464 V0) (res_main_v482 V0)) (Host.divf (res_main_v494 V0) (res_main_v512 V0)))) (res_main_v522 V0)) (constant S_ .f32 0x00000000#32) reducesTo_S4x29491_S_d0_1 h_S_)
        (Host.reduceAdd (mulf (Host.absf (subf (Host.divf (res_main_v467 V0) (res_main_v482 V0)) (Host.divf (res_main_v497 V0) (res_main_v512 V0)))) (res_main_v522 V0)) (constant S_ .f32 0x00000000#32) reducesTo_S4x29491_S_d0_1 h_S_))
        (Host.reduceAdd (mulf (Host.absf (subf (Host.divf (res_main_v470 V0) (res_main_v482 V0)) (Host.divf (res_main_v500 V0) (res_main_v512 V0)))) (res_main_v522 V0)) (constant S_ .f32 0x00000000#32) reducesTo_S4x29491_S_d0_1 h_S_))
      (addf (mulf (Host.reduceAdd (res_main_v522 V0) (constant S_ .f32 0x00000000#32) reducesTo_S4x29491_S_d0_1 h_S_) (constant S_ .f32 0x40400000#32)) (constant S_ .f32 0x358637BD#32))
      : FVec Ideal S_ .f32) = fun _ => total (refA V0) (refK V0) (refP V0) (refA' V0) := by
  funext i
  refine (total_at _ _ _ _ i _ _ _ _
    ((sum_groups _ i).trans (Finset.sum_congr rfl fun b _ => Finset.sum_congr rfl fun n _ => part_x V0 hP b n))
    ((sum_groups _ i).trans (Finset.sum_congr rfl fun b _ => Finset.sum_congr rfl fun n _ => part_y V0 hP b n))
    ((sum_groups _ i).trans (Finset.sum_congr rfl fun b _ => Finset.sum_congr rfl fun n _ => part_z V0 hP b n))
    ((sum_groups _ i).trans (Finset.sum_congr rfl fun b _ => Finset.sum_congr rfl fun n _ => v522_at V0 hP b n))).trans ?_
  unfold total
  refine congrArg₂ Ideal.div ?_ rfl
  refine join_sums _ _ _ _ (fun b n => asR_cases _) |>.trans ?_
  rfl

end Cert.Proof.Value

end
-- ==== Proof.Value.Algebraic.lean ====
/-
  The kernel's result is the reference's: under the precondition each leaves `total` of its arguments, and the arguments are
  the same.
-/
module

public import proofs.«01_k».proof.Defs
public import proofs.«01_k».proof.Proof.Frames
public import proofs.«01_k».proof.Proof.Value.Kern
public import proofs.«01_k».proof.Proof.Value.RefVal

@[expose] public section

noncomputable section

namespace Cert.Proof.Value

open Idealize.ShloMosaic Idealize.ShloMosaic.TcCoe Idealize.SL.Sem

/-! ## The precondition, read -/

theorem and_bits (x y : BitVec 1) (h : IntOp.andi x y = 1#1) : x = 1#1 ∧ y = 1#1 := by revert x y; decide

section Read
variable [Cert.Pre_pixels_focal.Facts]
variable (m : (ℓ : Loc Cert.KernelIdeal.nD Cert.KernelIdeal.τ Cert.KernelIdeal.sig) → Buf (Elt Ideal) ℓ)
  (h : Cert.Pre_KernelIdeal_pixels_focal m) (d : Dev Cert.KernelIdeal.nD)

include h

theorem focal_inRange : Cert.Proof.Ideal.InRange (m ((d.tc : Thread Cert.KernelIdeal.nD Cert.KernelIdeal.τ).loc Cert.KernelIdeal.main_arg4)) := by
  have e := congrFun (h d) fun i => i.elim0
  unfold Cert.Pre_pixels_focal.fn at e
  exact Cert.Proof.Ideal.inRange_of_reduce _ _ (and_bits _ _ e).1

omit h in
/-- Camera `b`'s focal length, read as the precondition reads it. -/
theorem focal_read (x : Cam.Idx → EReal) (h1 h2) (b : Fin 4) :
    shapeCast Cert.Pre_pixels_focal.S4 (extractStridedSlice Cert.Pre_pixels_focal.S4x1x1 ![0, 0, 0] x h1) h2 (fun | 0 => b) = x (camIx b 0 0) := by
  refine (shapeCast_apply _ h2 _ (three b (0 : Fin 1) (0 : Fin 1)) ?_).trans ?_
  · rw [Shape.rowMajor_val_three, Shape.rowMajor_val_one]; simp [three]
  · refine extractStridedSlice_apply _ x h1 _ _ ?_
    intro a; fin_cases a <;> simp [three, camIx]

theorem focal_ne (b : Fin 4) : argK m d (camIx b 0 0) ≠ 0 := by
  have e := congrFun (h d) fun i => i.elim0
  unfold Cert.Pre_pixels_focal.fn at e
  have e2 := Host.reduce_andi_all _ _ _ _ _ (and_bits _ _ e).2 (fun | 0 => b)
  have e3 : Ideal.cmp .une (argK m d (camIx b 0 0)) nil = 1#1 := by
    rw [← focal_read (argK m d) Cert.Pre_pixels_focal.Facts.slices_S4x3x3_S4x1x1_0_0_0 Cert.Pre_pixels_focal.Facts.shapeCasts_S4x1x1_S4 b]
    exact e2
  intro h0
  rw [h0, show nil = 0 from Ideal.ofBits_zero .f32] at e3
  revert e3
  simp [Ideal.cmp]

end Read

theorem ideal_frame_focal [Cert.Pre_pixels_focal.Facts] : Cert.quiescent_KernelIdeal_pre_pixels_focal := fun m g h =>
  Cert.Proof.Ideal.frame_of m g (Cert.Proof.Ideal.ok_of_inRange m (focal_inRange m h))

theorem reference_frame_focal [Cert.Pre_pixels_focal.Facts] : Cert.quiescent_ReferenceIdeal_pre_pixels_focal := fun m g _ => Ref.frame m g

/-! ## The two results -/

theorem algebraic [Cert.Pre_pixels_focal.Facts] : Cert.algebraic_KernelIdeal_ReferenceIdeal_pre_pixels_focal := fun m g m' g' h same => by
  have hr := focal_inRange m h
  have hk := Cert.Proof.Ideal.ok_of_inRange m hr
  refine ⟨fun c _ => total (argA m c) (argK m c) (argP m c) (argA' m c), ?_, ?_⟩
  · refine (θ_run Cert.KernelIdeal.defs _ _).mono (fun r hq c => ?_) (Cert.Proof.Ideal.run_main m g hk)
    refine ⟨(hq.1 c Cert.KernelIdeal.main_v21 rfl).trans (result_eq m hk hr (focal_ne m h) c), ?_, ?_, ?_, ?_, ?_⟩
    · exact (hq.1 c Cert.KernelIdeal.main_arg0 rfl).trans ((Cert.Proof.Ideal.X5_of m hk c _ (by decide) (by decide) (by decide) (by decide)).trans (Cert.Proof.Ideal.X1_arg0 m c))
    · exact (hq.1 c Cert.KernelIdeal.main_arg1 rfl).trans ((Cert.Proof.Ideal.X5_of m hk c _ (by decide) (by decide) (by decide) (by decide)).trans (Cert.Proof.Ideal.X1_arg1 m c))
    · exact (hq.1 c Cert.KernelIdeal.main_arg2 rfl).trans ((Cert.Proof.Ideal.X5_of m hk c _ (by decide) (by decide) (by decide) (by decide)).trans (Cert.Proof.Ideal.X1_arg2 m c))
    · exact (hq.1 c Cert.KernelIdeal.main_arg3 rfl).trans ((Cert.Proof.Ideal.X5_of m hk c _ (by decide) (by decide) (by decide) (by decide)).trans (Cert.Proof.Ideal.X1_arg3 m c))
    · exact (hq.1 c Cert.KernelIdeal.main_arg4 rfl).trans ((Cert.Proof.Ideal.X5_of m hk c _ (by decide) (by decide) (by decide) (by decide)).trans (Cert.Proof.Ideal.X1_arg4 m c))
  · refine (θ_run Cert.ReferenceIdeal.defs _ _).mono (fun r hq c => ⟨(hq c).1.trans ?_, (hq c).2⟩) (Cert.ReferenceIdeal.Value.run m' g')
    obtain ⟨e0, e1, -, e3, e4⟩ := same c
    have hP : ∀ j, (refP (StableHlo.launchContents m' c) j).toNat < 147456 := by
      intro j
      show (m' ((c.tc : Thread Cert.ReferenceIdeal.nD Cert.ReferenceIdeal.τ).loc Cert.ReferenceIdeal.main_arg4) j).toNat < 147456
      rw [e4]
      exact hr c j
    refine (reference_eq (StableHlo.launchContents m' c) hP).trans ?_
    have f0 : refA' (StableHlo.launchContents m' c) = argA' m c := e0
    have f1 : refA (StableHlo.launchContents m' c) = argA m c := e1
    have f3 : refK (StableHlo.launchContents m' c) = argK m c := e3
    have f4 : refP (StableHlo.launchContents m' c) = argP m c := e4
    rw [f0, f1, f3, f4]
    rfl

end Cert.Proof.Value

end
-- ==== Proof.lean ====
/-
  The certificate: the frames of the kernel over words and over the extended reals and of the reference, that the
  idealization rewrote nothing, and that the idealized kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pixels
public import proofs.«01_k».proof.Proof.Gen.Pre_pixels_focal
public import proofs.«01_k».proof.Proof.Frames
public import proofs.«01_k».proof.Proof.Value.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_pixels.Gen.facts,
    Cert.Pre_pixels_focal.Gen.facts, kernel_frame, ideal_frame, Value.ideal_frame_focal, reference_frame,
    Value.reference_frame_focal, trivial, Value.algebraic⟩

end Cert.Proof

end
